-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InSb (m : (ℓ : Loc Cert.InSb.nD Cert.InSb.τ Cert.InSb.sig) → Buf (Elt Bits) ℓ) : Prop :=
  True

def Pre_InSbIdeal (m : (ℓ : Loc Cert.InSbIdeal.nD Cert.InSbIdeal.τ Cert.InSbIdeal.sig) → Buf (Elt Ideal) ℓ) : Prop :=
  True

def Pre_InSbRefIdeal (m : (ℓ : Loc Cert.InSbRefIdeal.nD Cert.InSbRefIdeal.τ Cert.InSbRefIdeal.sig) → Buf (Elt Ideal) ℓ) : Prop :=
  True

def Pre_InBs (m : (ℓ : Loc Cert.InBs.nD Cert.InBs.τ Cert.InBs.sig) → Buf (Elt Bits) ℓ) : Prop :=
  True

def Pre_InBsIdeal (m : (ℓ : Loc Cert.InBsIdeal.nD Cert.InBsIdeal.τ Cert.InBsIdeal.sig) → Buf (Elt Ideal) ℓ) : Prop :=
  True

def Pre_InBsRefIdeal (m : (ℓ : Loc Cert.InBsRefIdeal.nD Cert.InBsRefIdeal.τ Cert.InBsRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InSb [hInSb : Cert.InSb.Facts] : Prop :=
  ∀ (m : (ℓ : Loc Cert.InSb.nD Cert.InSb.τ Cert.InSb.sig) → Buf (Elt Bits) ℓ) (g : Dev Cert.InSb.nD → PrngReg), Pre_InSb m →
    θ_run (Cert.InSb.defs (F := Bits)) (onTc (τ := Cert.InSb.τ) (Cert.InSb.main (F := Bits))) ⟨m, fun _ => 0, g⟩ (fun r => (∀ c : Dev Cert.InSb.nD,
      r.2.mem ((c.tc : Thread Cert.InSb.nD Cert.InSb.τ).loc Cert.InSb.main_arg0) = m ((c.tc : Thread Cert.InSb.nD Cert.InSb.τ).loc Cert.InSb.main_arg0)
      ∧ r.2.mem ((c.tc : Thread Cert.InSb.nD Cert.InSb.τ).loc Cert.InSb.main_arg1) = m ((c.tc : Thread Cert.InSb.nD Cert.InSb.τ).loc Cert.InSb.main_arg1)
      ∧ r.2.mem ((c.tc : Thread Cert.InSb.nD Cert.InSb.τ).loc Cert.InSb.main_arg2) = m ((c.tc : Thread Cert.InSb.nD Cert.InSb.τ).loc Cert.InSb.main_arg2)
      ∧ r.2.mem ((c.tc : Thread Cert.InSb.nD Cert.InSb.τ).loc Cert.InSb.main_arg3) = m ((c.tc : Thread Cert.InSb.nD Cert.InSb.τ).loc Cert.InSb.main_arg3)
      ∧ r.2.mem ((c.tc : Thread Cert.InSb.nD Cert.InSb.τ).loc Cert.InSb.main_arg4) = m ((c.tc : Thread Cert.InSb.nD Cert.InSb.τ).loc Cert.InSb.main_arg4))
      ∧ r.2.sem = fun _ => 0)

def quiescent_InSbIdeal [hInSbIdeal : Cert.InSbIdeal.Facts] : Prop :=
  ∀ (m : (ℓ : Loc Cert.InSbIdeal.nD Cert.InSbIdeal.τ Cert.InSbIdeal.sig) → Buf (Elt Ideal) ℓ) (g : Dev Cert.InSbIdeal.nD → PrngReg), Pre_InSbIdeal m →
    θ_run (Cert.InSbIdeal.defs (F := Ideal)) (onTc (τ := Cert.InSbIdeal.τ) (Cert.InSbIdeal.main (F := Ideal))) ⟨m, fun _ => 0, g⟩ (fun r => (∀ c : Dev Cert.InSbIdeal.nD,
      r.2.mem ((c.tc : Thread Cert.InSbIdeal.nD Cert.InSbIdeal.τ).loc Cert.InSbIdeal.main_arg0) = m ((c.tc : Thread Cert.InSbIdeal.nD Cert.InSbIdeal.τ).loc Cert.InSbIdeal.main_arg0)
      ∧ r.2.mem ((c.tc : Thread Cert.InSbIdeal.nD Cert.InSbIdeal.τ).loc Cert.InSbIdeal.main_arg1) = m ((c.tc : Thread Cert.InSbIdeal.nD Cert.InSbIdeal.τ).loc Cert.InSbIdeal.main_arg1)
      ∧ r.2.mem ((c.tc : Thread Cert.InSbIdeal.nD Cert.InSbIdeal.τ).loc Cert.InSbIdeal.main_arg2) = m ((c.tc : Thread Cert.InSbIdeal.nD Cert.InSbIdeal.τ).loc Cert.InSbIdeal.main_arg2)
      ∧ r.2.mem ((c.tc : Thread Cert.InSbIdeal.nD Cert.InSbIdeal.τ).loc Cert.InSbIdeal.main_arg3) = m ((c.tc : Thread Cert.InSbIdeal.nD Cert.InSbIdeal.τ).loc Cert.InSbIdeal.main_arg3)
      ∧ r.2.mem ((c.tc : Thread Cert.InSbIdeal.nD Cert.InSbIdeal.τ).loc Cert.InSbIdeal.main_arg4) = m ((c.tc : Thread Cert.InSbIdeal.nD Cert.InSbIdeal.τ).loc Cert.InSbIdeal.main_arg4))
      ∧ r.2.sem = fun _ => 0)

def quiescent_InSbRefIdeal [hInSbRefIdeal : Cert.InSbRefIdeal.Facts] : Prop :=
  ∀ (m : (ℓ : Loc Cert.InSbRefIdeal.nD Cert.InSbRefIdeal.τ Cert.InSbRefIdeal.sig) → Buf (Elt Ideal) ℓ) (g : Dev Cert.InSbRefIdeal.nD → PrngReg), Pre_InSbRefIdeal m →
    θ_run (Cert.InSbRefIdeal.defs (F := Ideal)) (onTc (τ := Cert.InSbRefIdeal.τ) (Cert.InSbRefIdeal.main (F := Ideal))) ⟨m, fun _ => 0, g⟩ (fun r => (∀ c : Dev Cert.InSbRefIdeal.nD,
      r.2.mem ((c.tc : Thread Cert.InSbRefIdeal.nD Cert.InSbRefIdeal.τ).loc Cert.InSbRefIdeal.main_arg0) = m ((c.tc : Thread Cert.InSbRefIdeal.nD Cert.InSbRefIdeal.τ).loc Cert.InSbRefIdeal.main_arg0)
      ∧ r.2.mem ((c.tc : Thread Cert.InSbRefIdeal.nD Cert.InSbRefIdeal.τ).loc Cert.InSbRefIdeal.main_arg1) = m ((c.tc : Thread Cert.InSbRefIdeal.nD Cert.InSbRefIdeal.τ).loc Cert.InSbRefIdeal.main_arg1)
      ∧ r.2.mem ((c.tc : Thread Cert.InSbRefIdeal.nD Cert.InSbRefIdeal.τ).loc Cert.InSbRefIdeal.main_arg2) = m ((c.tc : Thread Cert.InSbRefIdeal.nD Cert.InSbRefIdeal.τ).loc Cert.InSbRefIdeal.main_arg2)
      ∧ r.2.mem ((c.tc : Thread Cert.InSbRefIdeal.nD Cert.InSbRefIdeal.τ).loc Cert.InSbRefIdeal.main_arg3) = m ((c.tc : Thread Cert.InSbRefIdeal.nD Cert.InSbRefIdeal.τ).loc Cert.InSbRefIdeal.main_arg3)
      ∧ r.2.mem ((c.tc : Thread Cert.InSbRefIdeal.nD Cert.InSbRefIdeal.τ).loc Cert.InSbRefIdeal.main_arg4) = m ((c.tc : Thread Cert.InSbRefIdeal.nD Cert.InSbRefIdeal.τ).loc Cert.InSbRefIdeal.main_arg4))
      ∧ r.2.sem = fun _ => 0)

def quiescent_InBs [hInBs : Cert.InBs.Facts] : Prop :=
  ∀ (m : (ℓ : Loc Cert.InBs.nD Cert.InBs.τ Cert.InBs.sig) → Buf (Elt Bits) ℓ) (g : Dev Cert.InBs.nD → PrngReg), Pre_InBs m →
    θ_run (Cert.InBs.defs (F := Bits)) (onTc (τ := Cert.InBs.τ) (Cert.InBs.main (F := Bits))) ⟨m, fun _ => 0, g⟩ (fun r => (∀ c : Dev Cert.InBs.nD,
      r.2.mem ((c.tc : Thread Cert.InBs.nD Cert.InBs.τ).loc Cert.InBs.main_arg0) = m ((c.tc : Thread Cert.InBs.nD Cert.InBs.τ).loc Cert.InBs.main_arg0)
      ∧ r.2.mem ((c.tc : Thread Cert.InBs.nD Cert.InBs.τ).loc Cert.InBs.main_arg1) = m ((c.tc : Thread Cert.InBs.nD Cert.InBs.τ).loc Cert.InBs.main_arg1)
      ∧ r.2.mem ((c.tc : Thread Cert.InBs.nD Cert.InBs.τ).loc Cert.InBs.main_arg2) = m ((c.tc : Thread Cert.InBs.nD Cert.InBs.τ).loc Cert.InBs.main_arg2)
      ∧ r.2.mem ((c.tc : Thread Cert.InBs.nD Cert.InBs.τ).loc Cert.InBs.main_arg3) = m ((c.tc : Thread Cert.InBs.nD Cert.InBs.τ).loc Cert.InBs.main_arg3)
      ∧ r.2.mem ((c.tc : Thread Cert.InBs.nD Cert.InBs.τ).loc Cert.InBs.main_arg4) = m ((c.tc : Thread Cert.InBs.nD Cert.InBs.τ).loc Cert.InBs.main_arg4)
      ∧ r.2.mem ((c.tc : Thread Cert.InBs.nD Cert.InBs.τ).loc Cert.InBs.main_arg5) = m ((c.tc : Thread Cert.InBs.nD Cert.InBs.τ).loc Cert.InBs.main_arg5))
      ∧ r.2.sem = fun _ => 0)

def quiescent_InBsIdeal [hInBsIdeal : Cert.InBsIdeal.Facts] : Prop :=
  ∀ (m : (ℓ : Loc Cert.InBsIdeal.nD Cert.InBsIdeal.τ Cert.InBsIdeal.sig) → Buf (Elt Ideal) ℓ) (g : Dev Cert.InBsIdeal.nD → PrngReg), Pre_InBsIdeal m →
    θ_run (Cert.InBsIdeal.defs (F := Ideal)) (onTc (τ := Cert.InBsIdeal.τ) (Cert.InBsIdeal.main (F := Ideal))) ⟨m, fun _ => 0, g⟩ (fun r => (∀ c : Dev Cert.InBsIdeal.nD,
      r.2.mem ((c.tc : Thread Cert.InBsIdeal.nD Cert.InBsIdeal.τ).loc Cert.InBsIdeal.main_arg0) = m ((c.tc : Thread Cert.InBsIdeal.nD Cert.InBsIdeal.τ).loc Cert.InBsIdeal.main_arg0)
      ∧ r.2.mem ((c.tc : Thread Cert.InBsIdeal.nD Cert.InBsIdeal.τ).loc Cert.InBsIdeal.main_arg1) = m ((c.tc : Thread Cert.InBsIdeal.nD Cert.InBsIdeal.τ).loc Cert.InBsIdeal.main_arg1)
      ∧ r.2.mem ((c.tc : Thread Cert.InBsIdeal.nD Cert.InBsIdeal.τ).loc Cert.InBsIdeal.main_arg2) = m ((c.tc : Thread Cert.InBsIdeal.nD Cert.InBsIdeal.τ).loc Cert.InBsIdeal.main_arg2)
      ∧ r.2.mem ((c.tc : Thread Cert.InBsIdeal.nD Cert.InBsIdeal.τ).loc Cert.InBsIdeal.main_arg3) = m ((c.tc : Thread Cert.InBsIdeal.nD Cert.InBsIdeal.τ).loc Cert.InBsIdeal.main_arg3)
      ∧ r.2.mem ((c.tc : Thread Cert.InBsIdeal.nD Cert.InBsIdeal.τ).loc Cert.InBsIdeal.main_arg4) = m ((c.tc : Thread Cert.InBsIdeal.nD Cert.InBsIdeal.τ).loc Cert.InBsIdeal.main_arg4)
      ∧ r.2.mem ((c.tc : Thread Cert.InBsIdeal.nD Cert.InBsIdeal.τ).loc Cert.InBsIdeal.main_arg5) = m ((c.tc : Thread Cert.InBsIdeal.nD Cert.InBsIdeal.τ).loc Cert.InBsIdeal.main_arg5))
      ∧ r.2.sem = fun _ => 0)

def quiescent_InBsRefIdeal [hInBsRefIdeal : Cert.InBsRefIdeal.Facts] : Prop :=
  ∀ (m : (ℓ : Loc Cert.InBsRefIdeal.nD Cert.InBsRefIdeal.τ Cert.InBsRefIdeal.sig) → Buf (Elt Ideal) ℓ) (g : Dev Cert.InBsRefIdeal.nD → PrngReg), Pre_InBsRefIdeal m →
    θ_run (Cert.InBsRefIdeal.defs (F := Ideal)) (onTc (τ := Cert.InBsRefIdeal.τ) (Cert.InBsRefIdeal.main (F := Ideal))) ⟨m, fun _ => 0, g⟩ (fun r => (∀ c : Dev Cert.InBsRefIdeal.nD,
      r.2.mem ((c.tc : Thread Cert.InBsRefIdeal.nD Cert.InBsRefIdeal.τ).loc Cert.InBsRefIdeal.main_arg0) = m ((c.tc : Thread Cert.InBsRefIdeal.nD Cert.InBsRefIdeal.τ).loc Cert.InBsRefIdeal.main_arg0)
      ∧ r.2.mem ((c.tc : Thread Cert.InBsRefIdeal.nD Cert.InBsRefIdeal.τ).loc Cert.InBsRefIdeal.main_arg1) = m ((c.tc : Thread Cert.InBsRefIdeal.nD Cert.InBsRefIdeal.τ).loc Cert.InBsRefIdeal.main_arg1)
      ∧ r.2.mem ((c.tc : Thread Cert.InBsRefIdeal.nD Cert.InBsRefIdeal.τ).loc Cert.InBsRefIdeal.main_arg2) = m ((c.tc : Thread Cert.InBsRefIdeal.nD Cert.InBsRefIdeal.τ).loc Cert.InBsRefIdeal.main_arg2)
      ∧ r.2.mem ((c.tc : Thread Cert.InBsRefIdeal.nD Cert.InBsRefIdeal.τ).loc Cert.InBsRefIdeal.main_arg3) = m ((c.tc : Thread Cert.InBsRefIdeal.nD Cert.InBsRefIdeal.τ).loc Cert.InBsRefIdeal.main_arg3)
      ∧ r.2.mem ((c.tc : Thread Cert.InBsRefIdeal.nD Cert.InBsRefIdeal.τ).loc Cert.InBsRefIdeal.main_arg4) = m ((c.tc : Thread Cert.InBsRefIdeal.nD Cert.InBsRefIdeal.τ).loc Cert.InBsRefIdeal.main_arg4)
      ∧ r.2.mem ((c.tc : Thread Cert.InBsRefIdeal.nD Cert.InBsRefIdeal.τ).loc Cert.InBsRefIdeal.main_arg5) = m ((c.tc : Thread Cert.InBsRefIdeal.nD Cert.InBsRefIdeal.τ).loc Cert.InBsRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Attn_AttnIdeal : Prop :=
  True

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v11)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v11) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v57) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v29)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v29) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v74) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InSb_InSbIdeal : Prop :=
  True

def algebraic_InSbIdeal_InSbRefIdeal [hInSbIdeal : Cert.InSbIdeal.Facts] [hInSbRefIdeal : Cert.InSbRefIdeal.Facts] : Prop :=
  ∀ (m : (ℓ : Loc Cert.InSbIdeal.nD Cert.InSbIdeal.τ Cert.InSbIdeal.sig) → Buf (Elt Ideal) ℓ) (g : Dev Cert.InSbIdeal.nD → PrngReg)
    (m' : (ℓ : Loc Cert.InSbRefIdeal.nD Cert.InSbRefIdeal.τ Cert.InSbRefIdeal.sig) → Buf (Elt Ideal) ℓ) (g' : Dev Cert.InSbRefIdeal.nD → PrngReg), Pre_InSbIdeal m →
    (∀ c : Dev Cert.InSbIdeal.nD,
      m' ((c.tc : Thread Cert.InSbRefIdeal.nD Cert.InSbRefIdeal.τ).loc Cert.InSbRefIdeal.main_arg0) = m ((c.tc : Thread Cert.InSbIdeal.nD Cert.InSbIdeal.τ).loc Cert.InSbIdeal.main_arg0)
      ∧ m' ((c.tc : Thread Cert.InSbRefIdeal.nD Cert.InSbRefIdeal.τ).loc Cert.InSbRefIdeal.main_arg1) = m ((c.tc : Thread Cert.InSbIdeal.nD Cert.InSbIdeal.τ).loc Cert.InSbIdeal.main_arg1)
      ∧ m' ((c.tc : Thread Cert.InSbRefIdeal.nD Cert.InSbRefIdeal.τ).loc Cert.InSbRefIdeal.main_arg2) = m ((c.tc : Thread Cert.InSbIdeal.nD Cert.InSbIdeal.τ).loc Cert.InSbIdeal.main_arg2)
      ∧ m' ((c.tc : Thread Cert.InSbRefIdeal.nD Cert.InSbRefIdeal.τ).loc Cert.InSbRefIdeal.main_arg3) = m ((c.tc : Thread Cert.InSbIdeal.nD Cert.InSbIdeal.τ).loc Cert.InSbIdeal.main_arg3)
      ∧ m' ((c.tc : Thread Cert.InSbRefIdeal.nD Cert.InSbRefIdeal.τ).loc Cert.InSbRefIdeal.main_arg4) = m ((c.tc : Thread Cert.InSbIdeal.nD Cert.InSbIdeal.τ).loc Cert.InSbIdeal.main_arg4)) →
    ∃ (v0 : (c : Dev Cert.InSbIdeal.nD) → Buf (Elt Ideal) ((c.tc : Thread Cert.InSbIdeal.nD Cert.InSbIdeal.τ).loc Cert.InSbIdeal.main_v7)),
      θ_run (Cert.InSbIdeal.defs (F := Ideal)) (onTc (τ := Cert.InSbIdeal.τ) (Cert.InSbIdeal.main (F := Ideal))) ⟨m, fun _ => 0, g⟩ (fun r => ∀ c : Dev Cert.InSbIdeal.nD,
          r.2.mem ((c.tc : Thread Cert.InSbIdeal.nD Cert.InSbIdeal.τ).loc Cert.InSbIdeal.main_v7) = v0 c
          ∧ r.2.mem ((c.tc : Thread Cert.InSbIdeal.nD Cert.InSbIdeal.τ).loc Cert.InSbIdeal.main_arg0) = m ((c.tc : Thread Cert.InSbIdeal.nD Cert.InSbIdeal.τ).loc Cert.InSbIdeal.main_arg0)
          ∧ r.2.mem ((c.tc : Thread Cert.InSbIdeal.nD Cert.InSbIdeal.τ).loc Cert.InSbIdeal.main_arg1) = m ((c.tc : Thread Cert.InSbIdeal.nD Cert.InSbIdeal.τ).loc Cert.InSbIdeal.main_arg1)
          ∧ r.2.mem ((c.tc : Thread Cert.InSbIdeal.nD Cert.InSbIdeal.τ).loc Cert.InSbIdeal.main_arg2) = m ((c.tc : Thread Cert.InSbIdeal.nD Cert.InSbIdeal.τ).loc Cert.InSbIdeal.main_arg2)
          ∧ r.2.mem ((c.tc : Thread Cert.InSbIdeal.nD Cert.InSbIdeal.τ).loc Cert.InSbIdeal.main_arg3) = m ((c.tc : Thread Cert.InSbIdeal.nD Cert.InSbIdeal.τ).loc Cert.InSbIdeal.main_arg3)
          ∧ r.2.mem ((c.tc : Thread Cert.InSbIdeal.nD Cert.InSbIdeal.τ).loc Cert.InSbIdeal.main_arg4) = m ((c.tc : Thread Cert.InSbIdeal.nD Cert.InSbIdeal.τ).loc Cert.InSbIdeal.main_arg4))
      ∧ θ_run (Cert.InSbRefIdeal.defs (F := Ideal)) (onTc (τ := Cert.InSbRefIdeal.τ) (Cert.InSbRefIdeal.main (F := Ideal))) ⟨m', fun _ => 0, g'⟩ (fun r => ∀ c : Dev Cert.InSbRefIdeal.nD,
          r.2.mem ((c.tc : Thread Cert.InSbRefIdeal.nD Cert.InSbRefIdeal.τ).loc Cert.InSbRefIdeal.main_v35) = v0 c
          ∧ r.2.mem ((c.tc : Thread Cert.InSbRefIdeal.nD Cert.InSbRefIdeal.τ).loc Cert.InSbRefIdeal.main_arg0) = m' ((c.tc : Thread Cert.InSbRefIdeal.nD Cert.InSbRefIdeal.τ).loc Cert.InSbRefIdeal.main_arg0)
          ∧ r.2.mem ((c.tc : Thread Cert.InSbRefIdeal.nD Cert.InSbRefIdeal.τ).loc Cert.InSbRefIdeal.main_arg1) = m' ((c.tc : Thread Cert.InSbRefIdeal.nD Cert.InSbRefIdeal.τ).loc Cert.InSbRefIdeal.main_arg1)
          ∧ r.2.mem ((c.tc : Thread Cert.InSbRefIdeal.nD Cert.InSbRefIdeal.τ).loc Cert.InSbRefIdeal.main_arg2) = m' ((c.tc : Thread Cert.InSbRefIdeal.nD Cert.InSbRefIdeal.τ).loc Cert.InSbRefIdeal.main_arg2)
          ∧ r.2.mem ((c.tc : Thread Cert.InSbRefIdeal.nD Cert.InSbRefIdeal.τ).loc Cert.InSbRefIdeal.main_arg3) = m' ((c.tc : Thread Cert.InSbRefIdeal.nD Cert.InSbRefIdeal.τ).loc Cert.InSbRefIdeal.main_arg3)
          ∧ r.2.mem ((c.tc : Thread Cert.InSbRefIdeal.nD Cert.InSbRefIdeal.τ).loc Cert.InSbRefIdeal.main_arg4) = m' ((c.tc : Thread Cert.InSbRefIdeal.nD Cert.InSbRefIdeal.τ).loc Cert.InSbRefIdeal.main_arg4))

def preserves_InBs_InBsIdeal : Prop :=
  True

def algebraic_InBsIdeal_InBsRefIdeal [hInBsIdeal : Cert.InBsIdeal.Facts] [hInBsRefIdeal : Cert.InBsRefIdeal.Facts] : Prop :=
  ∀ (m : (ℓ : Loc Cert.InBsIdeal.nD Cert.InBsIdeal.τ Cert.InBsIdeal.sig) → Buf (Elt Ideal) ℓ) (g : Dev Cert.InBsIdeal.nD → PrngReg)
    (m' : (ℓ : Loc Cert.InBsRefIdeal.nD Cert.InBsRefIdeal.τ Cert.InBsRefIdeal.sig) → Buf (Elt Ideal) ℓ) (g' : Dev Cert.InBsRefIdeal.nD → PrngReg), Pre_InBsIdeal m →
    (∀ c : Dev Cert.InBsIdeal.nD,
      m' ((c.tc : Thread Cert.InBsRefIdeal.nD Cert.InBsRefIdeal.τ).loc Cert.InBsRefIdeal.main_arg0) = m ((c.tc : Thread Cert.InBsIdeal.nD Cert.InBsIdeal.τ).loc Cert.InBsIdeal.main_arg0)
      ∧ m' ((c.tc : Thread Cert.InBsRefIdeal.nD Cert.InBsRefIdeal.τ).loc Cert.InBsRefIdeal.main_arg1) = m ((c.tc : Thread Cert.InBsIdeal.nD Cert.InBsIdeal.τ).loc Cert.InBsIdeal.main_arg1)
      ∧ m' ((c.tc : Thread Cert.InBsRefIdeal.nD Cert.InBsRefIdeal.τ).loc Cert.InBsRefIdeal.main_arg2) = m ((c.tc : Thread Cert.InBsIdeal.nD Cert.InBsIdeal.τ).loc Cert.InBsIdeal.main_arg2)
      ∧ m' ((c.tc : Thread Cert.InBsRefIdeal.nD Cert.InBsRefIdeal.τ).loc Cert.InBsRefIdeal.main_arg3) = m ((c.tc : Thread Cert.InBsIdeal.nD Cert.InBsIdeal.τ).loc Cert.InBsIdeal.main_arg3)
      ∧ m' ((c.tc : Thread Cert.InBsRefIdeal.nD Cert.InBsRefIdeal.τ).loc Cert.InBsRefIdeal.main_arg4) = m ((c.tc : Thread Cert.InBsIdeal.nD Cert.InBsIdeal.τ).loc Cert.InBsIdeal.main_arg4)
      ∧ m' ((c.tc : Thread Cert.InBsRefIdeal.nD Cert.InBsRefIdeal.τ).loc Cert.InBsRefIdeal.main_arg5) = m ((c.tc : Thread Cert.InBsIdeal.nD Cert.InBsIdeal.τ).loc Cert.InBsIdeal.main_arg5)) →
    ∃ (v0 : (c : Dev Cert.InBsIdeal.nD) → Buf (Elt Ideal) ((c.tc : Thread Cert.InBsIdeal.nD Cert.InBsIdeal.τ).loc Cert.InBsIdeal.main_v24)),
      θ_run (Cert.InBsIdeal.defs (F := Ideal)) (onTc (τ := Cert.InBsIdeal.τ) (Cert.InBsIdeal.main (F := Ideal))) ⟨m, fun _ => 0, g⟩ (fun r => ∀ c : Dev Cert.InBsIdeal.nD,
          r.2.mem ((c.tc : Thread Cert.InBsIdeal.nD Cert.InBsIdeal.τ).loc Cert.InBsIdeal.main_v24) = v0 c
          ∧ r.2.mem ((c.tc : Thread Cert.InBsIdeal.nD Cert.InBsIdeal.τ).loc Cert.InBsIdeal.main_arg0) = m ((c.tc : Thread Cert.InBsIdeal.nD Cert.InBsIdeal.τ).loc Cert.InBsIdeal.main_arg0)
          ∧ r.2.mem ((c.tc : Thread Cert.InBsIdeal.nD Cert.InBsIdeal.τ).loc Cert.InBsIdeal.main_arg1) = m ((c.tc : Thread Cert.InBsIdeal.nD Cert.InBsIdeal.τ).loc Cert.InBsIdeal.main_arg1)
          ∧ r.2.mem ((c.tc : Thread Cert.InBsIdeal.nD Cert.InBsIdeal.τ).loc Cert.InBsIdeal.main_arg2) = m ((c.tc : Thread Cert.InBsIdeal.nD Cert.InBsIdeal.τ).loc Cert.InBsIdeal.main_arg2)
          ∧ r.2.mem ((c.tc : Thread Cert.InBsIdeal.nD Cert.InBsIdeal.τ).loc Cert.InBsIdeal.main_arg3) = m ((c.tc : Thread Cert.InBsIdeal.nD Cert.InBsIdeal.τ).loc Cert.InBsIdeal.main_arg3)
          ∧ r.2.mem ((c.tc : Thread Cert.InBsIdeal.nD Cert.InBsIdeal.τ).loc Cert.InBsIdeal.main_arg4) = m ((c.tc : Thread Cert.InBsIdeal.nD Cert.InBsIdeal.τ).loc Cert.InBsIdeal.main_arg4)
          ∧ r.2.mem ((c.tc : Thread Cert.InBsIdeal.nD Cert.InBsIdeal.τ).loc Cert.InBsIdeal.main_arg5) = m ((c.tc : Thread Cert.InBsIdeal.nD Cert.InBsIdeal.τ).loc Cert.InBsIdeal.main_arg5))
      ∧ θ_run (Cert.InBsRefIdeal.defs (F := Ideal)) (onTc (τ := Cert.InBsRefIdeal.τ) (Cert.InBsRefIdeal.main (F := Ideal))) ⟨m', fun _ => 0, g'⟩ (fun r => ∀ c : Dev Cert.InBsRefIdeal.nD,
          r.2.mem ((c.tc : Thread Cert.InBsRefIdeal.nD Cert.InBsRefIdeal.τ).loc Cert.InBsRefIdeal.main_v84) = v0 c
          ∧ r.2.mem ((c.tc : Thread Cert.InBsRefIdeal.nD Cert.InBsRefIdeal.τ).loc Cert.InBsRefIdeal.main_arg0) = m' ((c.tc : Thread Cert.InBsRefIdeal.nD Cert.InBsRefIdeal.τ).loc Cert.InBsRefIdeal.main_arg0)
          ∧ r.2.mem ((c.tc : Thread Cert.InBsRefIdeal.nD Cert.InBsRefIdeal.τ).loc Cert.InBsRefIdeal.main_arg1) = m' ((c.tc : Thread Cert.InBsRefIdeal.nD Cert.InBsRefIdeal.τ).loc Cert.InBsRefIdeal.main_arg1)
          ∧ r.2.mem ((c.tc : Thread Cert.InBsRefIdeal.nD Cert.InBsRefIdeal.τ).loc Cert.InBsRefIdeal.main_arg2) = m' ((c.tc : Thread Cert.InBsRefIdeal.nD Cert.InBsRefIdeal.τ).loc Cert.InBsRefIdeal.main_arg2)
          ∧ r.2.mem ((c.tc : Thread Cert.InBsRefIdeal.nD Cert.InBsRefIdeal.τ).loc Cert.InBsRefIdeal.main_arg3) = m' ((c.tc : Thread Cert.InBsRefIdeal.nD Cert.InBsRefIdeal.τ).loc Cert.InBsRefIdeal.main_arg3)
          ∧ r.2.mem ((c.tc : Thread Cert.InBsRefIdeal.nD Cert.InBsRefIdeal.τ).loc Cert.InBsRefIdeal.main_arg4) = m' ((c.tc : Thread Cert.InBsRefIdeal.nD Cert.InBsRefIdeal.τ).loc Cert.InBsRefIdeal.main_arg4)
          ∧ r.2.mem ((c.tc : Thread Cert.InBsRefIdeal.nD Cert.InBsRefIdeal.τ).loc Cert.InBsRefIdeal.main_arg5) = m' ((c.tc : Thread Cert.InBsRefIdeal.nD Cert.InBsRefIdeal.τ).loc Cert.InBsRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInSb : Cert.InSb.Facts) (hInSbIdeal : Cert.InSbIdeal.Facts) (hInSbRefIdeal : Cert.InSbRefIdeal.Facts) (hInBs : Cert.InBs.Facts) (hInBsIdeal : Cert.InBsIdeal.Facts) (hInBsRefIdeal : Cert.InBsRefIdeal.Facts) (hAda : Cert.Ada.Facts) (hAdaIdeal : Cert.AdaIdeal.Facts) (hAdaRefIdeal : Cert.AdaRefIdeal.Facts) (hPre_finite_inputs : Cert.Pre_finite_inputs.Facts),
    quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InSb (hInSb := hInSb)
    ∧ quiescent_InSbIdeal (hInSbIdeal := hInSbIdeal)
    ∧ quiescent_InSbRefIdeal (hInSbRefIdeal := hInSbRefIdeal)
    ∧ quiescent_InBs (hInBs := hInBs)
    ∧ quiescent_InBsIdeal (hInBsIdeal := hInBsIdeal)
    ∧ quiescent_InBsRefIdeal (hInBsRefIdeal := hInBsRefIdeal)
    ∧ quiescent_Ada (hAda := hAda)
    ∧ quiescent_AdaIdeal (hAdaIdeal := hAdaIdeal)
    ∧ quiescent_AdaRefIdeal (hAdaRefIdeal := hAdaRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InSb_InSbIdeal
    ∧ algebraic_InSbIdeal_InSbRefIdeal (hInSbIdeal := hInSbIdeal) (hInSbRefIdeal := hInSbRefIdeal)
    ∧ preserves_InBs_InBsIdeal
    ∧ algebraic_InBsIdeal_InBsRefIdeal (hInBsIdeal := hInBsIdeal) (hInBsRefIdeal := hInBsRefIdeal)
    ∧ preserves_Ada_AdaIdeal
    ∧ algebraic_AdaIdeal_AdaRefIdeal (hAdaIdeal := hAdaIdeal) (hAdaRefIdeal := hAdaRefIdeal)
-- ==== Pre_finite_inputs.lean ====
abbrev S16x2048x3072 : Shape := ⟨3, ![16, 2048, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S16x2048x3072 : S_.BroadcastsInDim S16x2048x3072 (![] : Fin 0 → Fin S16x2048x3072.rank)
  reducesTo_S16x2048x3072_S_d0_1_2 : S16x2048x3072.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v14 : IVec S_ 1) (main_v15 : FVec F S1x64 .f32) (main_v16 : FVec F S1x64 .f32) : IVec S_ 1 :=
  let main_v17 : IVec S1x64 1 := cmpf .olt main_v15 main_v16
  let main_c_5 : IVec S_ 1 := constantI S_ 1 1#1
  let main_v18 : IVec S_ 1 := (fun x v => Host.reduce IntOp.andi x v reducesTo_S1x64_S_d0_1 h_S_) main_v17 main_c_5
  let main_v19 : IVec S_ 1 := andi main_v14 main_v18
  let main_v20 : FVec F S1x64 .f32 := Host.absf main_arg4
  let main_cst_6 : FVec F S_ .f32 := constant S_ .f32 0x7F800000#32
  let main_v21 : FVec F S1x64 .f32 := broadcastInDim S1x64 ![] bcast_S_S1x64 main_cst_6
  let main_v22 : IVec S1x64 1 := cmpf .olt main_v20 main_v21
  let main_c_7 : IVec S_ 1 := constantI S_ 1 1#1
  let main_v23 : IVec S_ 1 := (fun x v => Host.reduce IntOp.andi x v reducesTo_S1x64_S_d0_1 h_S_) main_v22 main_c_7
  let main_v24 : IVec S_ 1 := andi main_v19 main_v23
  main_v24

def fn {F : FTy → Type} [FloatOps F] (main_arg0 : FVec F S16x2048x3072 .bf16) (main_arg1 : FVec F S1x64 .f32) (main_arg2 : FVec F S1x64 .f32) (main_arg3 : FVec F S1x64 .f32) (main_arg4 : FVec F S1x64 .f32) (main_arg5 : FVec F S1x128 .f32) : IVec S_ 1 :=
  let main_v0 : FVec F S16x2048x3072 .f32 := (extf .f32 · bitsLt_bf16_f32) main_arg0
  let main_v1 : FVec F S16x2048x3072 .f32 := Host.absf main_v0
  let main_cst : FVec F S_ .f32 := constant S_ .f32 0x7F800000#32
  let main_v2 : FVec F S16x2048x3072 .f32 := broadcastInDim S16x2048x3072 ![] bcast_S_S16x2048x3072 main_cst
  let main_v3 : IVec S16x2048x3072 1 := cmpf .olt main_v1 main_v2
  let main_c : IVec S_ 1 := constantI S_ 1 1#1
  let main_v4 : IVec S_ 1 := (fun x v => Host.reduce IntOp.andi x v reducesTo_S16x2048x3072_S_d0_1_2 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : IVec S_ 1 := andi main_v4 main_v8
  let main_v10 : FVec F S1x64 .f32 := Host.absf main_arg2
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_c_3 : IVec S_ 1 := constantI S_ 1 1#1
  let main_v13 : IVec S_ 1 := (fun x v => Host.reduce IntOp.andi x v reducesTo_S1x64_S_d0_1 h_S_) main_v12 main_c_3
  let main_v14 : IVec S_ 1 := andi main_v9 main_v13
  let main_v15 : FVec F S1x64 .f32 := Host.absf main_arg3
  let main_cst_4 : FVec F S_ .f32 := constant S_ .f32 0x7F800000#32
  let main_v16 : FVec F S1x64 .f32 := broadcastInDim S1x64 ![] bcast_S_S1x64 main_cst_4
  fn_part1 (F := F) main_arg4 main_v14 main_v15 main_v16
-- ==== Attn.lean ====
abbrev S16x2048x3072 : Shape := ⟨3, ![16, 2048, 3072]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S16x2048x1024 : Shape := ⟨3, ![16, 2048, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 18
  | .vmem => 10
  | .smem => 0
  | _ => 0

abbrev bufTy : (tb : Table) → Fin (tcTables nBuf tb) → BufTy
  | .hbm, ⟨0, _⟩ => ⟨S16x2048x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S4x64, .f32⟩
  | .hbm, ⟨15, _⟩ => ⟨S128, .f32⟩
  | .hbm, ⟨16, _⟩ => ⟨S1x128, .f32⟩
  | .hbm, ⟨17, _⟩ => ⟨S16x2048x1024, .bf16⟩
  | .local _ .vmem, ⟨0, _⟩ => ⟨S4x64, .f32⟩
  | .local _ .vmem, ⟨1, _⟩ => ⟨S1x128, .f32⟩
  | .local _ .vmem, ⟨2, _⟩ => ⟨S1x512x128, .bf16⟩
  | .local _ .vmem, ⟨3, _⟩ => ⟨S1x512x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x512x128, .bf16⟩
  | .local _ .vmem, ⟨9, _⟩ => ⟨S1x512x128, .bf16⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S16x2048x3072 : Shape := ⟨3, ![16, 2048, 3072]⟩
abbrev S1x64 : Shape := ⟨2, ![1, 64]⟩
abbrev S1x128 : Shape := ⟨2, ![1, 128]⟩
abbrev S16x2048x1024 : Shape := ⟨3, ![16, 2048, 1024]⟩
abbrev S16x2048x8x2x64 : Shape := ⟨5, ![16, 2048, 8, 2, 64]⟩
abbrev S16x2048x8x128 : Shape := ⟨4, ![16, 2048, 8, 128]⟩
abbrev S64 : Shape := ⟨1, ![64]⟩
abbrev S_ : Shape := ⟨0, ![]⟩
abbrev S16x8x2x2048x2048 : Shape := ⟨5, ![16, 8, 2, 2048, 2048]⟩
abbrev S16x8x2x2048 : Shape := ⟨4, ![16, 8, 2, 2048]⟩
abbrev S16x8x2x2048x1 : Shape := ⟨5, ![16, 8, 2, 2048, 1]⟩
abbrev S16x8x1x2048x2048 : Shape := ⟨5, ![16, 8, 1, 2048, 2048]⟩
abbrev S16x8x2048x2048 : Shape := ⟨4, ![16, 8, 2048, 2048]⟩
abbrev S16x8x128x2048 : Shape := ⟨4, ![16, 8, 128, 2048]⟩
abbrev S128 : Shape := ⟨1, ![128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S16x2048x3072, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x8x2x64, .f32⟩
  | .hbm, ⟨11, _⟩ => ⟨S16x2048x8x2x64, .f32⟩
  | .hbm, ⟨12, _⟩ => ⟨S16x2048x8x128, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16x8x2x2048x2048, .f32⟩
  | .hbm, ⟨29, _⟩ => ⟨S_, .f32⟩
  | .hbm, ⟨30, _⟩ => ⟨S16x8x2x2048, .f32⟩
  | .hbm, ⟨31, _⟩ => ⟨S_, .f32⟩
  | .hbm, ⟨32, _⟩ => ⟨S16x8x2x2048, .f32⟩
  | .hbm, ⟨33, _⟩ => ⟨S16x8x2x2048, .f32⟩
  | .hbm, ⟨34, _⟩ => ⟨S16x8x2x2048x1, .f32⟩
  | .hbm, ⟨35, _⟩ => ⟨S16x8x2x2048x2048, .f32⟩
  | .hbm, ⟨36, _⟩ => ⟨S16x8x2x2048x2048, .f32⟩
  | .hbm, ⟨37, _⟩ => ⟨S16x8x2x2048x2048, .f32⟩
  | .hbm, ⟨38, _⟩ => ⟨S_, .f32⟩
  | .hbm, ⟨39, _⟩ => ⟨S16x8x2x2048, .f32⟩
  | .hbm, ⟨40, _⟩ => ⟨S16x8x2x2048x1, .f32⟩
  | .hbm, ⟨41, _⟩ => ⟨S16x8x2x2048x2048, .f32⟩
  | .hbm, ⟨42, _⟩ => ⟨S16x8x2x2048x2048, .f32⟩
  | .hbm, ⟨43, _⟩ => ⟨S16x8x1x2048x2048, .f32⟩
  | .hbm, ⟨44, _⟩ => ⟨S16x8x2048x2048, .f32⟩
  | .hbm, ⟨45, _⟩ => ⟨S16x8x1x2048x2048, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x128x2048, .f32⟩
  | .hbm, ⟨51, _⟩ => ⟨S16x2048x8x128, .f32⟩
  | .hbm, ⟨52, _⟩ => ⟨S128, .f32⟩
  | .hbm, ⟨53, _⟩ => ⟨S16x2048x8x128, .f32⟩
  | .hbm, ⟨54, _⟩ => ⟨S_, .f32⟩
  | .hbm, ⟨55, _⟩ => ⟨S16x2048x8, .f32⟩
  | .hbm, ⟨56, _⟩ => ⟨S16x2048x8x1, .f32⟩
  | .hbm, ⟨57, _⟩ => ⟨S_, .f32⟩
  | .hbm, ⟨58, _⟩ => ⟨S16x2048x8x1, .f32⟩
  | .hbm, ⟨59, _⟩ => ⟨S16x2048x8x1, .f32⟩
  | .hbm, ⟨60, _⟩ => ⟨S_, .f32⟩
  | .hbm, ⟨61, _⟩ => ⟨S16x2048x8x1, .f32⟩
  | .hbm, ⟨62, _⟩ => ⟨S16x2048x8x1, .f32⟩
  | .hbm, ⟨63, _⟩ => ⟨S16x2048x8x1, .f32⟩
  | .hbm, ⟨64, _⟩ => ⟨S16x2048x8x128, .f32⟩
  | .hbm, ⟨65, _⟩ => ⟨S16x2048x8x128, .f32⟩
  | .hbm, ⟨66, _⟩ => ⟨S1x1x1x128, .f32⟩
  | .hbm, ⟨67, _⟩ => ⟨S16x2048x8x128, .f32⟩
  | .hbm, ⟨68, _⟩ => ⟨S16x2048x8x128, .f32⟩
  | .hbm, ⟨69, _⟩ => ⟨S_, .f32⟩
  | .hbm, ⟨70, _⟩ => ⟨S16x2048x8x128, .f32⟩
  | .hbm, ⟨71, _⟩ => ⟨S16x2048x8x128, .f32⟩
  | .hbm, ⟨72, _⟩ => ⟨S16x2048x1024, .f32⟩
  | .hbm, ⟨73, _⟩ => ⟨S16x2048x1024, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Ffn.lean ====
abbrev S2048x16x1024 : Shape := ⟨3, ![2048, 16, 1024]⟩
abbrev S1x1024 : Shape := ⟨2, ![1, 1024]⟩
abbrev S16x1024 : Shape := ⟨2, ![16, 1024]⟩
abbrev S1024 : Shape := ⟨1, ![1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024x5632 : Shape := ⟨2, ![1024, 5632]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S3x5632 : Shape := ⟨2, ![3, 5632]⟩
abbrev S3x2816 : Shape := ⟨2, ![3, 2816]⟩
abbrev S3x11x256 : Shape := ⟨3, ![3, 11, 256]⟩
abbrev S3x11x512 : Shape := ⟨3, ![3, 11, 512]⟩
abbrev S11x3x512 : Shape := ⟨3, ![11, 3, 512]⟩
abbrev S5632 : Shape := ⟨1, ![5632]⟩
abbrev S1x2816 : Shape := ⟨2, ![1, 2816]⟩
abbrev S1x11x256 : Shape := ⟨3, ![1, 11, 256]⟩
abbrev S1x11x512 : Shape := ⟨3, ![1, 11, 512]⟩
abbrev S11x1x512 : Shape := ⟨3, ![11, 1, 512]⟩
abbrev S2816x1024 : Shape := ⟨2, ![2816, 1024]⟩
abbrev S11x256x1024 : Shape := ⟨3, ![11, 256, 1024]⟩
abbrev S1x16x1024 : Shape := ⟨3, ![1, 16, 1024]⟩
abbrev S32x16x1024 : Shape := ⟨3, ![32, 16, 1024]⟩
abbrev S34x16x1024 : Shape := ⟨3, ![34, 16, 1024]⟩
abbrev S512x1024 : Shape := ⟨2, ![512, 1024]⟩
abbrev S1x16 : Shape := ⟨2, ![1, 16]⟩
abbrev S1x16x1 : Shape := ⟨3, ![1, 16, 1]⟩
abbrev S1x1x1024 : Shape := ⟨3, ![1, 1, 1024]⟩
abbrev S32x16 : Shape := ⟨2, ![32, 16]⟩
abbrev S32x16x1 : Shape := ⟨3, ![32, 16, 1]⟩
abbrev S544x1024 : Shape := ⟨2, ![544, 1024]⟩
abbrev S1x1024x512 : Shape := ⟨3, ![1, 1024, 512]⟩
abbrev S1024x512 : Shape := ⟨2, ![1024, 512]⟩
abbrev S544x512 : Shape := ⟨2, ![544, 512]⟩
abbrev S34x16x512 : Shape := ⟨3, ![34, 16, 512]⟩
abbrev S1x3x512 : Shape := ⟨3, ![1, 3, 512]⟩
abbrev S3x512 : Shape := ⟨2, ![3, 512]⟩
abbrev S1x1x512 : Shape := ⟨3, ![1, 1, 512]⟩
abbrev S1x512 : Shape := ⟨2, ![1, 512]⟩
abbrev S32x16x512 : Shape := ⟨3, ![32, 16, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 40
  | .vmem => 19
  | .smem => 0
  | _ => 0

abbrev bufTy : (tb : Table) → Fin (tcTables nBuf tb) → BufTy
  | .hbm, ⟨0, _⟩ => ⟨S2048x16x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024x5632, .f32⟩
  | .hbm, ⟨14, _⟩ => ⟨S1024x2816, .f32⟩
  | .hbm, ⟨15, _⟩ => ⟨S1024x11x256, .f32⟩
  | .hbm, ⟨16, _⟩ => ⟨S1024x2816, .f32⟩
  | .hbm, ⟨17, _⟩ => ⟨S1024x11x256, .f32⟩
  | .hbm, ⟨18, _⟩ => ⟨S1024x11x512, .f32⟩
  | .hbm, ⟨19, _⟩ => ⟨S11x1024x512, .f32⟩
  | .hbm, ⟨20, _⟩ => ⟨S11x1024x512, .bf16⟩
  | .hbm, ⟨21, _⟩ => ⟨S3x5632, .f32⟩
  | .hbm, ⟨22, _⟩ => ⟨S3x2816, .f32⟩
  | .hbm, ⟨23, _⟩ => ⟨S3x11x256, .f32⟩
  | .hbm, ⟨24, _⟩ => ⟨S3x2816, .f32⟩
  | .hbm, ⟨25, _⟩ => ⟨S3x11x256, .f32⟩
  | .hbm, ⟨26, _⟩ => ⟨S3x11x512, .f32⟩
  | .hbm, ⟨27, _⟩ => ⟨S11x3x512, .f32⟩
  | .hbm, ⟨28, _⟩ => ⟨S5632, .f32⟩
  | .hbm, ⟨29, _⟩ => ⟨S1x5632, .f32⟩
  | .hbm, ⟨30, _⟩ => ⟨S1x2816, .f32⟩
  | .hbm, ⟨31, _⟩ => ⟨S1x11x256, .f32⟩
  | .hbm, ⟨32, _⟩ => ⟨S1x2816, .f32⟩
  | .hbm, ⟨33, _⟩ => ⟨S1x11x256, .f32⟩
  | .hbm, ⟨34, _⟩ => ⟨S1x11x512, .f32⟩
  | .hbm, ⟨35, _⟩ => ⟨S11x1x512, .f32⟩
  | .hbm, ⟨36, _⟩ => ⟨S2816x1024, .f32⟩
  | .hbm, ⟨37, _⟩ => ⟨S11x256x1024, .f32⟩
  | .hbm, ⟨38, _⟩ => ⟨S11x256x1024, .bf16⟩
  | .hbm, ⟨39, _⟩ => ⟨S2048x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S32x16x1024, .f32⟩
  | .local _ .vmem, ⟨3, _⟩ => ⟨S32x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S16x1024, .f32⟩
  | .local _ .vmem, ⟨8, _⟩ => ⟨S16x1024, .f32⟩
  | .local _ .vmem, ⟨9, _⟩ => ⟨S16x1024, .f32⟩
  | .local _ .vmem, ⟨10, _⟩ => ⟨S1x1024, .f32⟩
  | .local _ .vmem, ⟨11, _⟩ => ⟨S11x1024x512, .bf16⟩
  | .local _ .vmem, ⟨12, _⟩ => ⟨S11x3x512, .f32⟩
  | .local _ .vmem, ⟨13, _⟩ => ⟨S11x1x512, .f32⟩
  | .local _ .vmem, ⟨14, _⟩ => ⟨S11x256x1024, .bf16⟩
  | .local _ .vmem, ⟨15, _⟩ => ⟨S32x16x1024, .f32⟩
  | .local _ .vmem, ⟨16, _⟩ => ⟨S32x16x1024, .f32⟩
  | .local _ .vmem, ⟨17, _⟩ => ⟨S34x16x1024, .bf16⟩
  | .local _ .vmem, ⟨18, _⟩ => ⟨S512x1024, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_38 : BitVec 32 := 0#32
  let c11_i32 : BitVec 32 := 11#32
  let v94 : BitVec 32 := Scalar.addi c0_i32_38 c11_i32
  let c1_i32 : BitVec 32 := 1#32
  ⟨c0_i32_38, v94, c1_i32⟩
def k0_off1 (k0_t1 : Fin k0_t1_loop.trips) : Fin 3 → Nat :=
  let c0_i32_38 : BitVec 32 := 0#32
  let c1_i32 : BitVec 32 := 1#32
  let arg16 : BitVec 32 := Scf.iv c0_i32_38 c1_i32 k0_t1
  let v118 : Index := Scalar.indexCast arg16
  let c0_52 : Index := 0#32
  let c0_53 : Index := 0#32
  ![v118.toNat, 0, 0]
def k0_off2 (k0_t1 : Fin k0_t1_loop.trips) : Fin 3 → Nat :=
  let c0_i32_38 : BitVec 32 := 0#32
  let c1_i32 : BitVec 32 := 1#32
  let arg16 : BitVec 32 := Scf.iv c0_i32_38 c1_i32 k0_t1
  let v123 : Index := Scalar.indexCast arg16
  let c0_55 : Index := 0#32
  let c0_56 : Index := 0#32
  ![v123.toNat, 0, 0]
def k0_off3 (k0_t1 : Fin k0_t1_loop.trips) : Fin 3 → Nat :=
  let c0_i32_38 : BitVec 32 := 0#32
  let c1_i32 : BitVec 32 := 1#32
  let arg16 : BitVec 32 := Scf.iv c0_i32_38 c1_i32 k0_t1
  let v126 : Index := Scalar.indexCast arg16
  let c0_57 : Index := 0#32
  let c0_58 : Index := 0#32
  ![v126.toNat, 0, 0]
def k0_off4 (k0_t1 : Fin k0_t1_loop.trips) : Fin 3 → Nat :=
  let c0_i32_38 : BitVec 32 := 0#32
  let c1_i32 : BitVec 32 := 1#32
  let arg16 : BitVec 32 := Scf.iv c0_i32_38 c1_i32 k0_t1
  let v157 : Index := Scalar.indexCast arg16
  let c0_61 : Index := 0#32
  let c0_62 : Index := 0#32
  ![v157.toNat, 0, 0]
def cc0_transform_0 (i : grid0.Coords) : Fin 3 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnRefIdeal.lean ====
abbrev S2048x16x1024 : Shape := ⟨3, ![2048, 16, 1024]⟩
abbrev S1x1024 : Shape := ⟨2, ![1, 1024]⟩
abbrev S16x1024 : Shape := ⟨2, ![16, 1024]⟩
abbrev S1024 : Shape := ⟨1, ![1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S16x2048x1024 : Shape := ⟨3, ![16, 2048, 1024]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x5632 : Shape := ⟨2, ![1024, 5632]⟩
abbrev S16x2048x5632 : Shape := ⟨3, ![16, 2048, 5632]⟩
abbrev S3x5632 : Shape := ⟨2, ![3, 5632]⟩
abbrev S5632 : Shape := ⟨1, ![5632]⟩
abbrev S16x2050x5632 : Shape := ⟨3, ![16, 2050, 5632]⟩
abbrev S1x1x5632 : Shape := ⟨3, ![1, 1, 5632]⟩
abbrev S16x2048x2816 : Shape := ⟨3, ![16, 2048, 2816]⟩
abbrev S2816x1024 : Shape := ⟨2, ![2816, 1024]⟩

abbrev nBuf : Space → Nat
  | .hbm => 102
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S1024, .f32⟩
  | .hbm, ⟨6, _⟩ => ⟨S1x1024x5632, .f32⟩
  | .hbm, ⟨7, _⟩ => ⟨S1x3x5632, .f32⟩
  | .hbm, ⟨8, _⟩ => ⟨S1x5632, .f32⟩
  | .hbm, ⟨9, _⟩ => ⟨S1x2816x1024, .f32⟩
  | .hbm, ⟨10, _⟩ => ⟨S16x2048x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S1024x5632, .f32⟩
  | .hbm, ⟨39, _⟩ => ⟨S16x2048x5632, .f32⟩
  | .hbm, ⟨40, _⟩ => ⟨S3x5632, .f32⟩
  | .hbm, ⟨41, _⟩ => ⟨S5632, .f32⟩
  | .hbm, ⟨42, _⟩ => ⟨S_, .i32⟩
  | .hbm, ⟨43, _⟩ => ⟨S_, .f32⟩
  | .hbm, ⟨44, _⟩ => ⟨S16x2050x5632, .f32⟩
  | .hbm, ⟨45, _⟩ => ⟨S16x2048x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S16x2048x5632, .f32⟩
  | .hbm, ⟨50, _⟩ => ⟨S16x2048x5632, .f32⟩
  | .hbm, ⟨51, _⟩ => ⟨S1x1x5632, .f32⟩
  | .hbm, ⟨52, _⟩ => ⟨S16x2048x5632, .f32⟩
  | .hbm, ⟨53, _⟩ => ⟨S16x2048x5632, .f32⟩
  | .hbm, ⟨54, _⟩ => ⟨S16x2048x5632, .f32⟩
  | .hbm, ⟨55, _⟩ => ⟨S1x5632, .f32⟩
  | .hbm, ⟨56, _⟩ => ⟨S5632, .f32⟩
  | .hbm, ⟨57, _⟩ => ⟨S1x1x5632, .f32⟩
  | .hbm, ⟨58, _⟩ => ⟨S16x2048x5632, .f32⟩
  | .hbm, ⟨59, _⟩ => ⟨S16x2048x5632, .f32⟩
  | .hbm, ⟨60, _⟩ => ⟨S16x2048x5632, .f32⟩
  | .hbm, ⟨61, _⟩ => ⟨S16x2048x5632, .f32⟩
  | .hbm, ⟨62, _⟩ => ⟨S1x5632, .f32⟩
  | .hbm, ⟨63, _⟩ => ⟨S5632, .f32⟩
  | .hbm, ⟨64, _⟩ => ⟨S1x1x5632, .f32⟩
  | .hbm, ⟨65, _⟩ => ⟨S16x2048x5632, .f32⟩
  | .hbm, ⟨66, _⟩ => ⟨S16x2048x5632, .f32⟩
  | .hbm, ⟨67, _⟩ => ⟨S16x2048x5632, .f32⟩
  | .hbm, ⟨68, _⟩ => ⟨S16x2048x2816, .f32⟩
  | .hbm, ⟨69, _⟩ => ⟨S16x2048x2816, .f32⟩
  | .hbm, ⟨70, _⟩ => ⟨S16x2048x2816, .f32⟩
  | .hbm, ⟨71, _⟩ => ⟨S16x2048x2816, .f32⟩
  | .hbm, ⟨72, _⟩ => ⟨S_, .f32⟩
  | .hbm, ⟨73, _⟩ => ⟨S16x2048x2816, .f32⟩
  | .hbm, ⟨74, _⟩ => ⟨S16x2048x2816, .f32⟩
  | .hbm, ⟨75, _⟩ => ⟨S_, .f32⟩
  | .hbm, ⟨76, _⟩ => ⟨S16x2048x2816, .f32⟩
  | .hbm, ⟨77, _⟩ => ⟨S16x2048x2816, .f32⟩
  | .hbm, ⟨78, _⟩ => ⟨S16x2048x2816, .f32⟩
  | .hbm, ⟨79, _⟩ => ⟨S16x2048x2816, .f32⟩
  | .hbm, ⟨80, _⟩ => ⟨S2816x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S_, .f32⟩
  | .hbm, ⟨87, _⟩ => ⟨S16x2048, .f32⟩
  | .hbm, ⟨88, _⟩ => ⟨S16x2048x1, .f32⟩
  | .hbm, ⟨89, _⟩ => ⟨S_, .f32⟩
  | .hbm, ⟨90, _⟩ => ⟨S16x2048x1, .f32⟩
  | .hbm, ⟨91, _⟩ => ⟨S16x2048x1, .f32⟩
  | .hbm, ⟨92, _⟩ => ⟨S_, .f32⟩
  | .hbm, ⟨93, _⟩ => ⟨S16x2048x1, .f32⟩
  | .hbm, ⟨94, _⟩ => ⟨S16x2048x1, .f32⟩
  | .hbm, ⟨95, _⟩ => ⟨S16x2048x1, .f32⟩
  | .hbm, ⟨96, _⟩ => ⟨S16x2048x1024, .f32⟩
  | .hbm, ⟨97, _⟩ => ⟨S16x2048x1024, .f32⟩
  | .hbm, ⟨98, _⟩ => ⟨S1x1x1024, .f32⟩
  | .hbm, ⟨99, _⟩ => ⟨S16x2048x1024, .f32⟩
  | .hbm, ⟨100, _⟩ => ⟨S16x2048x1024, .f32⟩
  | .hbm, ⟨101, _⟩ => ⟨S2048x16x1024, .f32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_3 : Ref sig .tc := ⟨.hbm, 86, rfl⟩
abbrev main_v62 : Ref sig .tc := ⟨.hbm, 87, rfl⟩
abbrev main_v63 : Ref sig .tc := ⟨.hbm, 88, rfl⟩
abbrev main_cst_4 : Ref sig .tc := ⟨.hbm, 89, rfl⟩
abbrev main_v64 : Ref sig .tc := ⟨.hbm, 90, rfl⟩
abbrev main_v65 : Ref sig .tc := ⟨.hbm, 91, rfl⟩
abbrev main_cst_5 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== Merge.lean ====
abbrev S2x2048x16x1024 : Shape := ⟨4, ![2, 2048, 16, 1024]⟩
abbrev S2048x16x4096 : Shape := ⟨3, ![2048, 16, 4096]⟩
abbrev S16x2048x1024 : Shape := ⟨3, ![16, 2048, 1024]⟩
abbrev S2048x16x1024 : Shape := ⟨3, ![2048, 16, 1024]⟩
abbrev S16x1024 : Shape := ⟨2, ![16, 1024]⟩
abbrev S1x1024x1024 : Shape := ⟨3, ![1, 1024, 1024]⟩
abbrev S1024x1024 : Shape := ⟨2, ![1024, 1024]⟩
abbrev S1x32x16x1024 : Shape := ⟨4, ![1, 32, 16, 1024]⟩
abbrev S32x16x1024 : Shape := ⟨3, ![32, 16, 1024]⟩
abbrev S512x1024 : Shape := ⟨2, ![512, 1024]⟩
abbrev S1x16x1024 : Shape := ⟨3, ![1, 16, 1024]⟩

abbrev nBuf : Space → Nat
  | .hbm => 16
  | .vmem => 20
  | .smem => 0
  | _ => 0

abbrev bufTy : (tb : Table) → Fin (tcTables nBuf tb) → BufTy
  | .hbm, ⟨0, _⟩ => ⟨S2x2048x16x1024, .bf16⟩
  | .hbm, ⟨1, _⟩ => ⟨S2048x16x4096, .bf16⟩
  | .hbm, ⟨2, _⟩ => ⟨S16x2048x1024, .bf16⟩
  | .hbm, ⟨3, _⟩ => ⟨S2048x16x1024, .f32⟩
  | .hbm, ⟨4, _⟩ => ⟨S16x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S2048x16x1024, .bf16⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S2048x16x1024, .f32⟩
  | .local _ .vmem, ⟨0, _⟩ => ⟨S1x32x16x1024, .bf16⟩
  | .local _ .vmem, ⟨1, _⟩ => ⟨S1x32x16x1024, .bf16⟩
  | .local _ .vmem, ⟨2, _⟩ => ⟨S1x32x16x1024, .bf16⟩
  | .local _ .vmem, ⟨3, _⟩ => ⟨S1x32x16x1024, .bf16⟩
  | .local _ .vmem, ⟨4, _⟩ => ⟨S32x16x1024, .bf16⟩
  | .local _ .vmem, ⟨5, _⟩ => ⟨S32x16x1024, .bf16⟩
  | .local _ .vmem, ⟨6, _⟩ => ⟨S32x16x1024, .bf16⟩
  | .local _ .vmem, ⟨7, _⟩ => ⟨S32x16x1024, .bf16⟩
  | .local _ .vmem, ⟨8, _⟩ => ⟨S32x16x1024, .bf16⟩
  | .local _ .vmem, ⟨9, _⟩ => ⟨S32x16x1024, .bf16⟩
  | .local _ .vmem, ⟨10, _⟩ => ⟨S32x16x1024, .bf16⟩
  | .local _ .vmem, ⟨11, _⟩ => ⟨S32x16x1024, .bf16⟩
  | .local _ .vmem, ⟨12, _⟩ => ⟨S32x16x1024, .f32⟩
  | .local _ .vmem, ⟨13, _⟩ => ⟨S32x16x1024, .f32⟩
  | .local _ .vmem, ⟨14, _⟩ => ⟨S16x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S32x16x1024, .f32⟩
  | .local _ .vmem, ⟨19, _⟩ => ⟨S32x16x1024, .f32⟩
  | _, _ => ⟨S2x2048x16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S2x2048x16x1024 : Shape := ⟨4, ![2, 2048, 16, 1024]⟩
abbrev S2048x16x4096 : Shape := ⟨3, ![2048, 16, 4096]⟩
abbrev S16x2048x1024 : Shape := ⟨3, ![16, 2048, 1024]⟩
abbrev S2048x16x1024 : Shape := ⟨3, ![2048, 16, 1024]⟩
abbrev S16x1024 : Shape := ⟨2, ![16, 1024]⟩
abbrev S1x1024x1024 : Shape := ⟨3, ![1, 1024, 1024]⟩
abbrev S1x2048x16x1024 : Shape := ⟨4, ![1, 2048, 16, 1024]⟩
abbrev S_ : Shape := ⟨0, ![]⟩
abbrev S1024x1024 : Shape := ⟨2, ![1024, 1024]⟩
abbrev S1x16x1024 : Shape := ⟨3, ![1, 16, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x16x1024, .bf16⟩
  | .hbm, ⟨1, _⟩ => ⟨S2048x16x4096, .bf16⟩
  | .hbm, ⟨2, _⟩ => ⟨S16x2048x1024, .bf16⟩
  | .hbm, ⟨3, _⟩ => ⟨S2048x16x1024, .f32⟩
  | .hbm, ⟨4, _⟩ => ⟨S16x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1x2048x16x1024, .bf16⟩
  | .hbm, ⟨9, _⟩ => ⟨S2048x16x1024, .bf16⟩
  | .hbm, ⟨10, _⟩ => ⟨S2048x16x1024, .f32⟩
  | .hbm, ⟨11, _⟩ => ⟨S1x2048x16x1024, .bf16⟩
  | .hbm, ⟨12, _⟩ => ⟨S2048x16x1024, .bf16⟩
  | .hbm, ⟨13, _⟩ => ⟨S2048x16x1024, .f32⟩
  | .hbm, ⟨14, _⟩ => ⟨S2048x16x1024, .f32⟩
  | .hbm, ⟨15, _⟩ => ⟨S2048x16x4096, .f32⟩
  | .hbm, ⟨16, _⟩ => ⟨S2048x16x1024, .f32⟩
  | .hbm, ⟨17, _⟩ => ⟨S2048x16x1024, .f32⟩
  | .hbm, ⟨18, _⟩ => ⟨S2048x16x1024, .f32⟩
  | .hbm, ⟨19, _⟩ => ⟨S2048x16x1024, .f32⟩
  | .hbm, ⟨20, _⟩ => ⟨S2048x16x1024, .f32⟩
  | .hbm, ⟨21, _⟩ => ⟨S2048x16x1024, .f32⟩
  | .hbm, ⟨22, _⟩ => ⟨S_, .f32⟩
  | .hbm, ⟨23, _⟩ => ⟨S2048x16x1024, .f32⟩
  | .hbm, ⟨24, _⟩ => ⟨S2048x16x1024, .f32⟩
  | .hbm, ⟨25, _⟩ => ⟨S2048x16x1024, .f32⟩
  | .hbm, ⟨26, _⟩ => ⟨S_, .f32⟩
  | .hbm, ⟨27, _⟩ => ⟨S2048x16x1024, .f32⟩
  | .hbm, ⟨28, _⟩ => ⟨S2048x16x1024, .f32⟩
  | .hbm, ⟨29, _⟩ => ⟨S2048x16x1024, .f32⟩
  | .hbm, ⟨30, _⟩ => ⟨S_, .f32⟩
  | .hbm, ⟨31, _⟩ => ⟨S2048x16x1024, .f32⟩
  | .hbm, ⟨32, _⟩ => ⟨S2048x16x1024, .f32⟩
  | .hbm, ⟨33, _⟩ => ⟨S_, .f32⟩
  | .hbm, ⟨34, _⟩ => ⟨S2048x16x1024, .f32⟩
  | .hbm, ⟨35, _⟩ => ⟨S2048x16x1024, .f32⟩
  | .hbm, ⟨36, _⟩ => ⟨S2048x16x1024, .f32⟩
  | .hbm, ⟨37, _⟩ => ⟨S2048x16x1024, .f32⟩
  | .hbm, ⟨38, _⟩ => ⟨S1024x1024, .f32⟩
  | .hbm, ⟨39, _⟩ => ⟨S2048x16x1024, .f32⟩
  | .hbm, ⟨40, _⟩ => ⟨S16x2048x1024, .f32⟩
  | .hbm, ⟨41, _⟩ => ⟨S2048x16x1024, .f32⟩
  | .hbm, ⟨42, _⟩ => ⟨S1024x1024, .f32⟩
  | .hbm, ⟨43, _⟩ => ⟨S2048x16x1024, .f32⟩
  | .hbm, ⟨44, _⟩ => ⟨S2048x16x1024, .f32⟩
  | .hbm, ⟨45, _⟩ => ⟨S2048x16x1024, .f32⟩
  | .hbm, ⟨46, _⟩ => ⟨S2048x16x1024, .f32⟩
  | .hbm, ⟨47, _⟩ => ⟨S1x16x1024, .f32⟩
  | .hbm, ⟨48, _⟩ => ⟨S1024x1024, .f32⟩
  | .hbm, ⟨49, _⟩ => ⟨S2048x16x1024, .f32⟩
  | .hbm, ⟨50, _⟩ => ⟨S2048x16x1024, .f32⟩
  | .hbm, ⟨51, _⟩ => ⟨S2048x16x1024, .f32⟩
  | .hbm, ⟨52, _⟩ => ⟨S2048x16x1024, .f32⟩
  | _, _ => ⟨S2x2048x16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== InSb.lean ====
abbrev S2048x16x1024 : Shape := ⟨3, ![2048, 16, 1024]⟩
abbrev S1x1024 : Shape := ⟨2, ![1, 1024]⟩
abbrev S16x1024 : Shape := ⟨2, ![16, 1024]⟩
abbrev S1x1024x7168 : Shape := ⟨3, ![1, 1024, 7168]⟩
abbrev S1024x7168 : Shape := ⟨2, ![1024, 7168]⟩
abbrev S1024 : Shape := ⟨1, ![1024]⟩
abbrev S1024x2048 : Shape := ⟨2, ![1024, 2048]⟩
abbrev S1024x4096 : Shape := ⟨2, ![1024, 4096]⟩
abbrev S32768x4096 : Shape := ⟨2, ![32768, 4096]⟩
abbrev S64x16x1024 : Shape := ⟨3, ![64, 16, 1024]⟩
abbrev S1024x1024 : Shape := ⟨2, ![1024, 1024]⟩
abbrev S64x16 : Shape := ⟨2, ![64, 16]⟩
abbrev S64x16x1 : Shape := ⟨3, ![64, 16, 1]⟩
abbrev S1x1x1024 : Shape := ⟨3, ![1, 1, 1024]⟩
abbrev S1x16x1024 : Shape := ⟨3, ![1, 16, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2048x16x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S1x1024x7168, .f32⟩
  | .hbm, ⟨5, _⟩ => ⟨S1024x7168, .f32⟩
  | .hbm, ⟨6, _⟩ => ⟨S1024x7168, .bf16⟩
  | .hbm, ⟨7, _⟩ => ⟨S1024, .f32⟩
  | .hbm, ⟨8, _⟩ => ⟨S1x1024, .f32⟩
  | .hbm, ⟨9, _⟩ => ⟨S1024x2048, .bf16⟩
  | .hbm, ⟨10, _⟩ => ⟨S1024x2048, .bf16⟩
  | .hbm, ⟨11, _⟩ => ⟨S1024x4096, .bf16⟩
  | .hbm, ⟨12, _⟩ => ⟨S32768x4096, .bf16⟩
  | .local _ .vmem, ⟨0, _⟩ => ⟨S64x16x1024, .f32⟩
  | .local _ .vmem, ⟨1, _⟩ => ⟨S64x16x1024, .f32⟩
  | .local _ .vmem, ⟨2, _⟩ => ⟨S1x1024, .f32⟩
  | .local _ .vmem, ⟨3, _⟩ => ⟨S16x1024, .f32⟩
  | .local _ .vmem, ⟨4, _⟩ => ⟨S16x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InSbRefIdeal.lean ====
abbrev S2048x16x1024 : Shape := ⟨3, ![2048, 16, 1024]⟩
abbrev S1x1024 : Shape := ⟨2, ![1, 1024]⟩
abbrev S16x1024 : Shape := ⟨2, ![16, 1024]⟩
abbrev S1x1024x7168 : Shape := ⟨3, ![1, 1024, 7168]⟩
abbrev S1024 : Shape := ⟨1, ![1024]⟩
abbrev S_ : Shape := ⟨0, ![]⟩
abbrev S2048x16 : Shape := ⟨2, ![2048, 16]⟩
abbrev S2048x16x1 : Shape := ⟨3, ![2048, 16, 1]⟩
abbrev S1x1x1024 : Shape := ⟨3, ![1, 1, 1024]⟩
abbrev S1x16x1024 : Shape := ⟨3, ![1, 16, 1024]⟩
abbrev S1024x7168 : Shape := ⟨2, ![1024, 7168]⟩
abbrev S2048x16x7168 : Shape := ⟨3, ![2048, 16, 7168]⟩
abbrev S2048x16x2048 : Shape := ⟨3, ![2048, 16, 2048]⟩
abbrev S2048x16x3072 : Shape := ⟨3, ![2048, 16, 3072]⟩
abbrev S2048x16x4096 : Shape := ⟨3, ![2048, 16, 4096]⟩
abbrev S32768x4096 : Shape := ⟨2, ![32768, 4096]⟩

abbrev nBuf : Space → Nat
  | .hbm => 47
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S1x1024x7168, .f32⟩
  | .hbm, ⟨5, _⟩ => ⟨S1024, .f32⟩
  | .hbm, ⟨6, _⟩ => ⟨S2048x16x1024, .f32⟩
  | .hbm, ⟨7, _⟩ => ⟨S_, .f32⟩
  | .hbm, ⟨8, _⟩ => ⟨S2048x16, .f32⟩
  | .hbm, ⟨9, _⟩ => ⟨S2048x16x1, .f32⟩
  | .hbm, ⟨10, _⟩ => ⟨S_, .f32⟩
  | .hbm, ⟨11, _⟩ => ⟨S2048x16x1, .f32⟩
  | .hbm, ⟨12, _⟩ => ⟨S2048x16x1, .f32⟩
  | .hbm, ⟨13, _⟩ => ⟨S_, .f32⟩
  | .hbm, ⟨14, _⟩ => ⟨S2048x16x1, .f32⟩
  | .hbm, ⟨15, _⟩ => ⟨S2048x16x1, .f32⟩
  | .hbm, ⟨16, _⟩ => ⟨S2048x16x1, .f32⟩
  | .hbm, ⟨17, _⟩ => ⟨S2048x16x1024, .f32⟩
  | .hbm, ⟨18, _⟩ => ⟨S2048x16x1024, .f32⟩
  | .hbm, ⟨19, _⟩ => ⟨S1x1x1024, .f32⟩
  | .hbm, ⟨20, _⟩ => ⟨S2048x16x1024, .f32⟩
  | .hbm, ⟨21, _⟩ => ⟨S2048x16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S1x16x1024, .f32⟩
  | .hbm, ⟨26, _⟩ => ⟨S2048x16x1024, .f32⟩
  | .hbm, ⟨27, _⟩ => ⟨S2048x16x1024, .f32⟩
  | .hbm, ⟨28, _⟩ => ⟨S1x16x1024, .f32⟩
  | .hbm, ⟨29, _⟩ => ⟨S2048x16x1024, .f32⟩
  | .hbm, ⟨30, _⟩ => ⟨S2048x16x1024, .f32⟩
  | .hbm, ⟨31, _⟩ => ⟨S1024x7168, .f32⟩
  | .hbm, ⟨32, _⟩ => ⟨S2048x16x7168, .f32⟩
  | .hbm, ⟨33, _⟩ => ⟨S2048x16x2048, .f32⟩
  | .hbm, ⟨34, _⟩ => ⟨S2048x16x3072, .f32⟩
  | .hbm, ⟨35, _⟩ => ⟨S2048x16x2048, .f32⟩
  | .hbm, ⟨36, _⟩ => ⟨S2048x16x2048, .f32⟩
  | .hbm, ⟨37, _⟩ => ⟨S2048x16x2048, .f32⟩
  | .hbm, ⟨38, _⟩ => ⟨S_, .f32⟩
  | .hbm, ⟨39, _⟩ => ⟨S2048x16x2048, .f32⟩
  | .hbm, ⟨40, _⟩ => ⟨S2048x16x2048, .f32⟩
  | .hbm, ⟨41, _⟩ => ⟨S_, .f32⟩
  | .hbm, ⟨42, _⟩ => ⟨S2048x16x2048, .f32⟩
  | .hbm, ⟨43, _⟩ => ⟨S2048x16x2048, .f32⟩
  | .hbm, ⟨44, _⟩ => ⟨S2048x16x4096, .f32⟩
  | .hbm, ⟨45, _⟩ => ⟨S32768x4096, .f32⟩
  | .hbm, ⟨46, _⟩ => ⟨S32768x4096, .bf16⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== InBs.lean ====
abbrev S16x2048x1024 : Shape := ⟨3, ![16, 2048, 1024]⟩
abbrev S1x1024 : Shape := ⟨2, ![1, 1024]⟩
abbrev S16x1024 : Shape := ⟨2, ![16, 1024]⟩
abbrev S16x2048 : Shape := ⟨2, ![16, 2048]⟩
abbrev S1x1024x7168 : Shape := ⟨3, ![1, 1024, 7168]⟩
abbrev S16x2048x1 : Shape := ⟨3, ![16, 2048, 1]⟩
abbrev S16x2048x128 : Shape := ⟨3, ![16, 2048, 128]⟩
abbrev S8 : Shape := ⟨1, ![8]⟩
abbrev S_ : Shape := ⟨0, ![]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S1024x7168 : Shape := ⟨2, ![1024, 7168]⟩
abbrev S1024 : Shape := ⟨1, ![1024]⟩
abbrev S1024x3072 : Shape := ⟨2, ![1024, 3072]⟩
abbrev S16x1x1024 : Shape := ⟨3, ![16, 1, 1024]⟩
abbrev S16x2048x3072 : Shape := ⟨3, ![16, 2048, 3072]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 35
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S16x2048, .i32⟩
  | .hbm, ⟨5, _⟩ => ⟨S1x1024x7168, .f32⟩
  | .hbm, ⟨6, _⟩ => ⟨S16x2048, .f32⟩
  | .hbm, ⟨7, _⟩ => ⟨S16x2048x1, .f32⟩
  | .hbm, ⟨8, _⟩ => ⟨S16x2048x128, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S1x8, .f32⟩
  | .hbm, ⟨24, _⟩ => ⟨S16x8, .f32⟩
  | .hbm, ⟨25, _⟩ => ⟨S128, .f32⟩
  | .hbm, ⟨26, _⟩ => ⟨S1x128, .f32⟩
  | .hbm, ⟨27, _⟩ => ⟨S1024x7168, .f32⟩
  | .hbm, ⟨28, _⟩ => ⟨S1024x7168, .bf16⟩
  | .hbm, ⟨29, _⟩ => ⟨S1024, .f32⟩
  | .hbm, ⟨30, _⟩ => ⟨S1x1024, .f32⟩
  | .hbm, ⟨31, _⟩ => ⟨S1024x3072, .bf16⟩
  | .hbm, ⟨32, _⟩ => ⟨S16x1x1024, .f32⟩
  | .hbm, ⟨33, _⟩ => ⟨S16x1x1024, .f32⟩
  | .hbm, ⟨34, _⟩ => ⟨S16x2048x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x128, .f32⟩
  | .local _ .vmem, ⟨8, _⟩ => ⟨S1x1024x128, .f32⟩
  | .local _ .vmem, ⟨9, _⟩ => ⟨S1x128, .f32⟩
  | .local _ .vmem, ⟨10, _⟩ => ⟨S1024x1024, .bf16⟩
  | .local _ .vmem, ⟨11, _⟩ => ⟨S1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1024x1024, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 2, 3], ![false, false, false]⟩

def k0_cond2 (i : grid0.Coords) : BitVec 1 :=
  let arg2 : BitVec 32 := BitVec.ofNat 32 (i 2).val
  let c0_i32_4 : BitVec 32 := 0#32
  let v7 : BitVec 1 := Scalar.cmpi .eq arg2 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== InBsRefIdeal.lean ====
abbrev S16x2048x1024 : Shape := ⟨3, ![16, 2048, 1024]⟩
abbrev S1x1024 : Shape := ⟨2, ![1, 1024]⟩
abbrev S16x1024 : Shape := ⟨2, ![16, 1024]⟩
abbrev S16x2048 : Shape := ⟨2, ![16, 2048]⟩
abbrev S1x1024x7168 : Shape := ⟨3, ![1, 1024, 7168]⟩
abbrev S8 : Shape := ⟨1, ![8]⟩
abbrev S_ : Shape := ⟨0, ![]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x1x1x8 : Shape := ⟨5, ![16, 2048, 1, 1, 8]⟩
abbrev S1024 : Shape := ⟨1, ![1024]⟩
abbrev S1x1x1024 : Shape := ⟨3, ![1, 1, 1024]⟩
abbrev S16x1x1024 : Shape := ⟨3, ![16, 1, 1024]⟩
abbrev S1024x7168 : Shape := ⟨2, ![1024, 7168]⟩
abbrev S16x2048x7168 : Shape := ⟨3, ![16, 2048, 7168]⟩
abbrev S16x2048x2048 : Shape := ⟨3, ![16, 2048, 2048]⟩
abbrev S16x2048x8x2x64 : Shape := ⟨5, ![16, 2048, 8, 2, 64]⟩
abbrev S16x2048x8x2x8 : Shape := ⟨5, ![16, 2048, 8, 2, 8]⟩
abbrev S16x2048x8x2x48 : Shape := ⟨5, ![16, 2048, 8, 2, 48]⟩
abbrev S16x2048x3072 : Shape := ⟨3, ![16, 2048, 3072]⟩

abbrev nBuf : Space → Nat
  | .hbm => 100
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024, .f32⟩
  | .hbm, ⟨2, _⟩ => ⟨S16x1024, .f32⟩
  | .hbm, ⟨3, _⟩ => ⟨S16x1024, .f32⟩
  | .hbm, ⟨4, _⟩ => ⟨S16x2048, .i32⟩
  | .hbm, ⟨5, _⟩ => ⟨S1x1024x7168, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S16x2048, .f32⟩
  | .hbm, ⟨21, _⟩ => ⟨S16x2048x1, .f32⟩
  | .hbm, ⟨22, _⟩ => ⟨S1x1x8, .f32⟩
  | .hbm, ⟨23, _⟩ => ⟨S16x2048x8, .f32⟩
  | .hbm, ⟨24, _⟩ => ⟨S16x2048x8, .f32⟩
  | .hbm, ⟨25, _⟩ => ⟨S16x2048x8, .f32⟩
  | .hbm, ⟨26, _⟩ => ⟨S16x2048x8, .f32⟩
  | .hbm, ⟨27, _⟩ => ⟨S16x2048x1x1x8, .f32⟩
  | .hbm, ⟨28, _⟩ => ⟨S16x2048x8, .f32⟩
  | .hbm, ⟨29, _⟩ => ⟨S16x2048x1x1x8, .f32⟩
  | .hbm, ⟨30, _⟩ => ⟨S1024, .f32⟩
  | .hbm, ⟨31, _⟩ => ⟨S16x2048x1024, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S16x1x1024, .f32⟩
  | .hbm, ⟨48, _⟩ => ⟨S_, .f32⟩
  | .hbm, ⟨49, _⟩ => ⟨S16x1x1024, .f32⟩
  | .hbm, ⟨50, _⟩ => ⟨S16x1x1024, .f32⟩
  | .hbm, ⟨51, _⟩ => ⟨S16x2048x1024, .f32⟩
  | .hbm, ⟨52, _⟩ => ⟨S16x2048x1024, .f32⟩
  | .hbm, ⟨53, _⟩ => ⟨S16x1x1024, .f32⟩
  | .hbm, ⟨54, _⟩ => ⟨S16x2048x1024, .f32⟩
  | .hbm, ⟨55, _⟩ => ⟨S16x2048x1024, .f32⟩
  | .hbm, ⟨56, _⟩ => ⟨S1024x7168, .f32⟩
  | .hbm, ⟨57, _⟩ => ⟨S16x2048x7168, .f32⟩
  | .hbm, ⟨58, _⟩ => ⟨S16x2048x2048, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x2048, .f32⟩
  | .hbm, ⟨63, _⟩ => ⟨S16x2048x8x2x64, .f32⟩
  | .hbm, ⟨64, _⟩ => ⟨S16x2048x8x2x8, .f32⟩
  | .hbm, ⟨65, _⟩ => ⟨S16x2048x8x2x8, .f32⟩
  | .hbm, ⟨66, _⟩ => ⟨S16x2048x8x2x8, .f32⟩
  | .hbm, ⟨67, _⟩ => ⟨S16x2048x8x2x8, .f32⟩
  | .hbm, ⟨68, _⟩ => ⟨S16x2048x8x2x8, .f32⟩
  | .hbm, ⟨69, _⟩ => ⟨S16x2048x8x2x8, .f32⟩
  | .hbm, ⟨70, _⟩ => ⟨S16x2048x8x2x8, .f32⟩
  | .hbm, ⟨71, _⟩ => ⟨S16x2048x8x2x8, .f32⟩
  | .hbm, ⟨72, _⟩ => ⟨S16x2048x8x2x8, .f32⟩
  | .hbm, ⟨73, _⟩ => ⟨S16x2048x8x2x8, .f32⟩
  | .hbm, ⟨74, _⟩ => ⟨S16x2048x8x2x8, .f32⟩
  | .hbm, ⟨75, _⟩ => ⟨S16x2048x8x2x8, .f32⟩
  | .hbm, ⟨76, _⟩ => ⟨S16x2048x8x2x48, .f32⟩
  | .hbm, ⟨77, _⟩ => ⟨S16x2048x8x2x64, .f32⟩
  | .hbm, ⟨78, _⟩ => ⟨S_, .f32⟩
  | .hbm, ⟨79, _⟩ => ⟨S16x2048x8x2x64, .f32⟩
  | .hbm, ⟨80, _⟩ => ⟨S16x2048x8x2x64, .f32⟩
  | .hbm, ⟨81, _⟩ => ⟨S16x2048x8x2x64, .f32⟩
  | .hbm, ⟨82, _⟩ => ⟨S16x2048x8x2x8, .f32⟩
  | .hbm, ⟨83, _⟩ => ⟨S16x2048x8x2x8, .f32⟩
  | .hbm, ⟨84, _⟩ => ⟨S16x2048x8x2x8, .f32⟩
  | .hbm, ⟨85, _⟩ => ⟨S16x2048x8x2x8, .f32⟩
  | .hbm, ⟨86, _⟩ => ⟨S16x2048x8x2x8, .f32⟩
  | .hbm, ⟨87, _⟩ => ⟨S16x2048x8x2x8, .f32⟩
  | .hbm, ⟨88, _⟩ => ⟨S16x2048x8x2x8, .f32⟩
  | .hbm, ⟨89, _⟩ => ⟨S16x2048x8x2x8, .f32⟩
  | .hbm, ⟨90, _⟩ => ⟨S16x2048x8x2x8, .f32⟩
  | .hbm, ⟨91, _⟩ => ⟨S16x2048x8x2x8, .f32⟩
  | .hbm, ⟨92, _⟩ => ⟨S16x2048x8x2x8, .f32⟩
  | .hbm, ⟨93, _⟩ => ⟨S16x2048x8x2x8, .f32⟩
  | .hbm, ⟨94, _⟩ => ⟨S16x2048x8x2x48, .f32⟩
  | .hbm, ⟨95, _⟩ => ⟨S16x2048x8x2x64, .f32⟩
  | .hbm, ⟨96, _⟩ => ⟨S16x2048x1024, .f32⟩
  | .hbm, ⟨97, _⟩ => ⟨S16x2048x1024, .f32⟩
  | .hbm, ⟨98, _⟩ => ⟨S16x2048x3072, .f32⟩
  | .hbm, ⟨99, _⟩ => ⟨S16x2048x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_7 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩

abbrev nD : Nat := 1
abbrev τ : Topo := Topo.v7x

variable {F : FTy → Type} [FloatOps F]
-- ==== Ada.lean ====
abbrev S16x1024 : Shape := ⟨2, ![16, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x6144, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.Merge.lean ====
/- The merge of the two branches: what a grid point stores is the reference's term at the index the
   point's block places it at, so the result array is the reference's result. -/
module

public import proofs.«01_k».proof.Proof.Gen.MergeIdeal.Frame
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeIdeal.Hand

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ)

/-- The windows' block indices at every grid point. -/
theorem idx : ∀ t : Fin cfg0.N,
    win0_0.index t = ![0, t.val, 0, 0] ∧ win0_1.index t = ![1, t.val, 0, 0] ∧ win0_2.index t = ![t.val, 0, 1]
    ∧ win0_3.index t = ![t.val, 0, 2] ∧ win0_4.index t = ![t.val, 0, 3] ∧ win0_5.index t = ![t.val, 0, 0]
    ∧ win0_6.index t = ![t.val, 0, 0] ∧ win0_7.index t = ![0, 0] ∧ win0_8.index t = ![0, 0]
    ∧ win0_9.index t = ![0, 0] ∧ win0_10.index t = ![0, 0] ∧ win0_11.index t = ![t.val, 0, 0] :=
  (by decide +kernel : ∀ t : Fin grid0.N, _)

/-- The reference's result as a function of the kernel's arguments. -/
def REF (x0 : FVec Ideal S2x2048x16x1024 .bf16) (x1 : FVec Ideal S2048x16x4096 .bf16)
    (x2 : FVec Ideal S16x2048x1024 .bf16) (x3 : FVec Ideal S2048x16x1024 .f32) (x4 : FVec Ideal S16x1024 .f32)
    (x5 x6 x7 : FVec Ideal S1x1024x1024 .f32) : FVec Ideal S2048x16x1024 .f32 :=
  Cert.MergeRefIdeal.Read.val_main_v40 (F := Ideal) x0 x1 x2 x3 x4 x5 x6 x7

section

set_option maxHeartbeats 1600000 in
/-- What a grid point stores at a block index is the reference's result at the index the block places it at. -/
theorem point (c : Dev nD) (t : Fin cfg0.N) (y) :
    k0_pay1 (k0_pay2 (iblk m c 0 t) (iblk m c 1 t) (iblk m c 2 t) (iblk m c 8 t)) (k0_pay3 (iblk m c 5 t) (iblk m c 9 t))
        (iblk m c 3 t) (iblk m c 4 t) (iblk m c 10 t) (iblk m c 6 t) (iblk m c 7 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 11).blk t).view.emb y) := by
  pointwise [k0_pay1, k0_pay2, k0_pay3, REF, Cert.MergeRefIdeal.Read.val_main_v0, Cert.MergeRefIdeal.Read.val_main_v1, Cert.MergeRefIdeal.Read.val_main_v2, Cert.MergeRefIdeal.Read.val_main_v3, Cert.MergeRefIdeal.Read.val_main_v4, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_cst, Cert.MergeRefIdeal.Read.val_main_v14, Cert.MergeRefIdeal.Read.val_main_v15, Cert.MergeRefIdeal.Read.val_main_v16, Cert.MergeRefIdeal.Read.val_main_cst_0, Cert.MergeRefIdeal.Read.val_main_v17, Cert.MergeRefIdeal.Read.val_main_v18, Cert.MergeRefIdeal.Read.val_main_v19, Cert.MergeRefIdeal.Read.val_main_cst_1, Cert.MergeRefIdeal.Read.val_main_v20, Cert.MergeRefIdeal.Read.val_main_v21, Cert.MergeRefIdeal.Read.val_main_cst_2, Cert.MergeRefIdeal.Read.val_main_v22, Cert.MergeRefIdeal.Read.val_main_v23, Cert.MergeRefIdeal.Read.val_main_v24, Cert.MergeRefIdeal.Read.val_main_v25, Cert.MergeRefIdeal.Read.val_main_v26, Cert.MergeRefIdeal.Read.val_main_v27, Cert.MergeRefIdeal.Read.val_main_v28, Cert.MergeRefIdeal.Read.val_main_v29, Cert.MergeRefIdeal.Read.val_main_v30, Cert.MergeRefIdeal.Read.val_main_v31, Cert.MergeRefIdeal.Read.val_main_v32, Cert.MergeRefIdeal.Read.val_main_v33, Cert.MergeRefIdeal.Read.val_main_v34, Cert.MergeRefIdeal.Read.val_main_v35, Cert.MergeRefIdeal.Read.val_main_v36, Cert.MergeRefIdeal.Read.val_main_v37, Cert.MergeRefIdeal.Read.val_main_v38, Cert.MergeRefIdeal.Read.val_main_v39, Cert.MergeRefIdeal.Read.val_main_v40]
  blk_point [iblk, V, idx t]
end

/-- The result array after the run is the reference's result. -/
theorem final (c : Dev nD) : (dats m 0 c).arrAt 11 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  blk_simp
  rw [after0_11]; frame_out
  exact point m c t y

end Cert.MergeIdeal.Hand

end
-- ==== Proof.AttnMath.lean ====
module

public import Idealize.ShloMosaic.Lib.Pointwise

@[expose] public section

set_option maxRecDepth 16384

noncomputable section

namespace Cert.AttnMath

open Idealize.ShloMosaic

/-- The extended real the largest score starts from. -/
abbrev low : EReal := Ideal.ofBits FTy.f32 4286578688#32

/-- It is the least one. -/
theorem low_eq : low = ⊥ := by
  simp [low, Ideal.ofBits, Ideal.ieee]

/-- The constant of the mixing weight is a real number. -/
theorem init_real : ∃ l : ℝ, Ideal.ofBits FTy.f32 1045220557#32 = (l : EReal) := by
  refine ⟨(13421773 : ℝ) * 2 ^ (-26 : ℤ), ?_⟩
  simp [Ideal.ofBits, Ideal.ieee, -EReal.coe_mul]

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals is a real. -/
theorem fold_real {n : ℕ} (hn : 0 < n) (s : Fin n → ℝ) :
    ∃ M : ℝ, Finset.fold max low (fun j => (s j : EReal)) Finset.univ = (M : EReal) := by
  rw [low_eq]
  obtain ⟨j, _, h⟩ := Finset.exists_mem_eq_sup (Finset.univ : Finset (Fin n)) ⟨⟨0, hn⟩, Finset.mem_univ _⟩ (fun j => (s j : EReal))
  exact ⟨s j, h⟩

/-- A row of scores exponentiated against its largest, contracted with the values and divided by its total. -/
def branch {n : ℕ} (S V : Fin n → EReal) : EReal :=
  Ideal.div (∑ j, Ideal.exp (S j - Finset.fold max low (fun k => S k) Finset.univ) * V j)
    (∑ j, Ideal.exp (S j - Finset.fold max low (fun k => S k) Finset.univ))

/-- A row of scores as weights: exponentiated against its largest and divided by the total. -/
def weight {n : ℕ} (S : Fin n → EReal) (j : Fin n) : EReal :=
  Ideal.div (Ideal.exp (S j - max low (Finset.fold max low (fun k => S k) Finset.univ)))
    (∑ k, Ideal.exp (S k - max low (Finset.fold max low (fun k => S k) Finset.univ)))

/-- Over real scores and values a branch is the contraction of real weights with the values. -/
theorem branch_real {n : ℕ} (hn : 0 < n) (s : Fin n → ℝ) :
    ∃ w : Fin n → ℝ, (∀ j, weight (fun k => (s k : EReal)) j = (w j : EReal))
      ∧ ∀ v : Fin n → ℝ, branch (fun k => (s k : EReal)) (fun k => (v k : EReal)) = ((∑ j, v j * w j : ℝ) : EReal) := by
  obtain ⟨M, hM⟩ := fold_real hn s
  have hpos : (0 : ℝ) < ∑ j, Real.exp (s j - M) :=
    Finset.sum_pos (fun j _ => Real.exp_pos _) ⟨⟨0, hn⟩, Finset.mem_univ _⟩
  have hsum : ∑ j, Ideal.exp ((s j : EReal) - (M : EReal)) = ((∑ j, Real.exp (s j - M) : ℝ) : EReal) := by
    rw [coe_sum]
    refine Finset.sum_congr rfl fun j _ => ?_
    rw [← EReal.coe_sub, Ideal.exp_coe]
  refine ⟨fun j => Real.exp (s j - M) * (1 / ∑ k, Real.exp (s k - M)), fun j => ?_, fun v => ?_⟩
  · unfold weight
    rw [hM, low_eq, max_eq_right bot_le, hsum, Ideal.div_coe hpos.ne', ← EReal.coe_sub, Ideal.exp_coe, ← EReal.coe_mul]
  · unfold branch
    rw [hM, hsum, Ideal.div_coe hpos.ne']
    have hnum : ∑ j, Ideal.exp ((s j : EReal) - (M : EReal)) * (v j : EReal) = ((∑ j, Real.exp (s j - M) * v j : ℝ) : EReal) := by
      rw [coe_sum]
      refine Finset.sum_congr rfl fun j _ => ?_
      rw [← EReal.coe_sub, Ideal.exp_coe, ← EReal.coe_mul]
    rw [hnum, ← EReal.coe_mul, Finset.sum_mul]
    congr 1
    refine Finset.sum_congr rfl fun j _ => ?_
    ring

/-- Two branches mixed are the values contracted with the mixed weights, over finite scores, values and mixing weight. -/
theorem mix {n : ℕ} (hn : 0 < n) (S T V : Fin n → EReal) (L : EReal) (hS : ∀ j, ∃ r : ℝ, S j = r) (hT : ∀ j, ∃ r : ℝ, T j = r)
    (hV : ∀ j, ∃ r : ℝ, V j = r) (hL : ∃ r : ℝ, L = r) :
    branch S V - L * branch T V = ∑ j, V j * (weight S j - L * weight T j) := by
  choose s hs using hS
  choose t ht using hT
  choose v hv using hV
  obtain ⟨l, rfl⟩ := hL
  obtain rfl : S = fun k => (s k : EReal) := funext hs
  obtain rfl : T = fun k => (t k : EReal) := funext ht
  obtain rfl : V = fun k => (v k : EReal) := funext hv
  obtain ⟨a, ha, hA⟩ := branch_real hn s
  obtain ⟨b, hb, hB⟩ := branch_real hn t
  rw [hA, hB, ← EReal.coe_mul, ← EReal.coe_sub, Finset.mul_sum, ← Finset.sum_sub_distrib, coe_sum]
  refine Finset.sum_congr rfl fun j _ => ?_
  rw [ha, hb, ← EReal.coe_mul, ← EReal.coe_sub, ← EReal.coe_mul]
  congr 1
  ring

/-- A sum of products of finite numbers is finite. -/
theorem dot_real {n : ℕ} (f g : Fin n → EReal) (hf : ∀ j, ∃ r : ℝ, f j = r) (hg : ∀ j, ∃ r : ℝ, g j = r) :
    ∃ r : ℝ, ∑ j, f j * g j = (r : EReal) := by
  choose a ha using hf
  choose b hb using hg
  refine ⟨∑ j, a j * b j, ?_⟩
  rw [coe_sum]
  refine Finset.sum_congr rfl fun j _ => ?_
  rw [ha, hb, EReal.coe_mul]

/-- The exponential of a finite number is finite. -/
theorem exp_real (x : EReal) (h : ∃ r : ℝ, x = r) : ∃ r : ℝ, Ideal.exp x = r := by
  obtain ⟨r, rfl⟩ := h
  exact ⟨Real.exp r, rfl⟩

/-- The mixing weight is finite when its four vectors are. -/
theorem lam_real (a b : EReal) (ha : ∃ r : ℝ, a = r) (hb : ∃ r : ℝ, b = r) :
    ∃ r : ℝ, Ideal.exp a - Ideal.exp b + Ideal.ofBits FTy.f32 1045220557#32 = (r : EReal) := by
  obtain ⟨x, hx⟩ := exp_real a ha
  obtain ⟨y, hy⟩ := exp_real b hb
  obtain ⟨z, hz⟩ := init_real
  exact ⟨x - y + z, by rw [hx, hy, hz, EReal.coe_add, EReal.coe_sub]⟩

/-- The lanes below 64 alone, selected out of 128. -/
theorem low_lanes (f : Fin 128 → EReal) :
    (∑ d : Fin 128, Scalar.select (IntOp.cmpi CmpIPredicate.slt (BitVec.ofNat 32 d.val) 64#32) (f d) 0)
      = ∑ d : Fin 64, f ⟨d.val, by omega⟩ := by
  have h : ∀ d : Fin 128, IntOp.cmpi CmpIPredicate.slt (BitVec.ofNat 32 d.val) 64#32 = if d.val < 64 then 1 else 0 := by decide
  simp only [h]
  rw [Fin.sum_univ_two_halves 64 64 rfl]
  have h1 : ∀ d : Fin 64, Scalar.select (if d.val < 64 then 1 else 0) (f ⟨d.val, by omega⟩) 0 = f ⟨d.val, by omega⟩ := fun d => by
    rw [if_pos d.isLt]; rfl
  have h2 : ∀ d : Fin 64, Scalar.select (if 64 + d.val < 64 then 1 else 0) (f ⟨64 + d.val, by omega⟩) 0 = 0 := fun d => by
    rw [if_neg (by omega)]; rfl
  rw [Finset.sum_congr rfl fun d _ => h1 d, Finset.sum_congr rfl fun d _ => h2 d, Finset.sum_const_zero, add_zero]

/-- The lanes from 64 on alone, selected out of 128. -/
theorem high_lanes (f : Fin 128 → EReal) :
    (∑ d : Fin 128, Scalar.select (IntOp.cmpi CmpIPredicate.sge (BitVec.ofNat 32 d.val) 64#32) (f d) 0)
      = ∑ d : Fin 64, f ⟨64 + d.val, by omega⟩ := by
  have h : ∀ d : Fin 128, IntOp.cmpi CmpIPredicate.sge (BitVec.ofNat 32 d.val) 64#32 = if d.val < 64 then 0 else 1 := by decide
  simp only [h]
  rw [Fin.sum_univ_two_halves 64 64 rfl]
  have h1 : ∀ d : Fin 64, Scalar.select (if d.val < 64 then 0 else 1) (f ⟨d.val, by omega⟩) 0 = 0 := fun d => by
    rw [if_pos d.isLt]; rfl
  have h2 : ∀ d : Fin 64, Scalar.select (if 64 + d.val < 64 then 0 else 1) (f ⟨64 + d.val, by omega⟩) 0 = f ⟨64 + d.val, by omega⟩ := fun d => by
    rw [if_neg (by omega)]; rfl
  rw [Finset.sum_congr rfl fun d _ => h1 d, Finset.sum_congr rfl fun d _ => h2 d, Finset.sum_const_zero, zero_add]

/-- The normalization of one query's mixed attention: the root mean square divided out, the two gains applied. -/
def post (o g : Fin 128 → EReal) (e : Fin 128) : EReal :=
  o e * Ideal.rsqrt (Ideal.div (∑ x, o x * o x) (Ideal.ofBits FTy.f32 0x43000000#32) + Ideal.ofBits FTy.f32 0x358637BD#32) * g e
    * Ideal.ofBits FTy.f32 0x3F4CCCCD#32

end Cert.AttnMath

end
-- ==== Proof.AttnKer.lean ====
module

public import proofs.«01_k».proof.Proof.Gen.AttnIdeal.Frame
public import proofs.«01_k».proof.Proof.AttnMath
public import Idealize.ShloMosaic.Lib.Pipeline.ValueKit
public import Idealize.ShloMosaic.Lib.Pointwise

@[expose] public section

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen Cert.AttnMath

set_option maxHeartbeats 1600000 in
/-- The first branch of the kernel: the scores of the lanes below 64, softened, contracted with the values. -/
theorem pay6_eq (q : Vec Ideal S1x512x128 .bf16) (k v : Vec Ideal S1x2048x128 .bf16) (r : Fin 512) (x : Fin 128) :
    k0_pay6 q k v (ix2 r x) = branch (fun j : Fin 2048 => ∑ d : Fin 64, q (ix3 0 r ⟨d.val, by omega⟩) * k (ix3 0 j ⟨d.val, by omega⟩))
      (fun j => v (ix3 0 j x)) := by
  pointwise [k0_pay6, k0_pay2, k0_pay3, k0_pay4, k0_pay5, branch]
  have h : ∀ j : Fin 2048, (∑ d : Fin 128, Scalar.select (IntOp.cmpi CmpIPredicate.slt (BitVec.ofNat 32 d.val) 64#32)
      (q (ix3 0 r d) * k (ix3 0 j d)) 0) = ∑ d : Fin 64, q (ix3 0 r ⟨d.val, by omega⟩) * k (ix3 0 j ⟨d.val, by omega⟩) :=
    fun j => low_lanes fun d => q (ix3 0 r d) * k (ix3 0 j d)
  simp only [ix2_0, ix2_1, h]

set_option maxHeartbeats 1600000 in
/-- The second branch of the kernel: the scores of the lanes from 64 on. -/
theorem pay89_eq (q : Vec Ideal S1x512x128 .bf16) (k v : Vec Ideal S1x2048x128 .bf16) (r : Fin 512) (x : Fin 128) :
    Ideal.div (k0_pay8 q k v (ix2 r x)) (k0_pay9 q k (ix2 r x))
      = branch (fun j : Fin 2048 => ∑ d : Fin 64, q (ix3 0 r ⟨64 + d.val, by omega⟩) * k (ix3 0 j ⟨64 + d.val, by omega⟩))
      (fun j => v (ix3 0 j x)) := by
  pointwise [k0_pay7, k0_pay8, k0_pay9, k0_pay2, k0_pay3, k0_pay4, k0_pay5, branch]
  have h : ∀ j : Fin 2048, (∑ d : Fin 128, Scalar.select (IntOp.cmpi CmpIPredicate.sge (BitVec.ofNat 32 d.val) 64#32)
      (q (ix3 0 r d) * k (ix3 0 j d)) 0) = ∑ d : Fin 64, q (ix3 0 r ⟨64 + d.val, by omega⟩) * k (ix3 0 j ⟨64 + d.val, by omega⟩) :=
    fun j => high_lanes fun d => q (ix3 0 r d) * k (ix3 0 j d)
  simp only [h]

/-- The kernel's mixing weight, of its four vectors stacked. -/
def lam (l : Vec Ideal S4x64 .f32) : EReal :=
  Ideal.exp (∑ d : Fin 64, l (ix2 0 d) * l (ix2 1 d)) - Ideal.exp (∑ d : Fin 64, l (ix2 2 d) * l (ix2 3 d)) + Ideal.ofBits FTy.f32 1045220557#32

set_option maxHeartbeats 1600000 in
/-- The rest of the kernel: the branches mixed and normalized. -/
theorem pay1_eq (a b c : FVec Ideal S512x128 .f32) (l : Vec Ideal S4x64 .f32) (g : Vec Ideal S1x128 .f32) (r : Fin 512) (e : Fin 128) :
    k0_pay1 a b c l g (ix3 0 r e)
      = post (fun x => a (ix2 r x) - lam l * Ideal.div (b (ix2 r x)) (c (ix2 r x))) (fun x => g (ix2 0 x)) e := by
  pointwise [k0_pay1, AttnMath.post, lam]

end Cert.AttnIdeal.Hand

end
-- ==== Proof.AttnRef.lean ====
module

public import proofs.«01_k».proof.Proof.Gen.AttnRefIdeal.Read
public import proofs.«01_k».proof.Proof.AttnMath
public import Idealize.ShloMosaic.Lib.Pipeline.ValueKit
public import Idealize.ShloMosaic.Lib.Pointwise

@[expose] public section

set_option maxRecDepth 16384

noncomputable section

namespace Cert.AttnRefIdeal.Hand

open Idealize.ShloMosaic Idealize.ShloMosaic.TcCoe Idealize.SL.Sem
open Idealize.ShloMosaic.Pipeline (Dat)
open Cert.AttnRefIdeal.Read Cert.AttnMath

variable (x0 : Vec Ideal Cert.AttnRefIdeal.S16x2048x3072 .bf16) (x1 x2 x3 x4 : Vec Ideal Cert.AttnRefIdeal.S1x64 .f32)

/-- One query's score against one key in one branch of one head. -/
def score (b : Fin 16) (h : Fin 8) (c : Fin 2) (q k : Fin 2048) : EReal :=
  ∑ d : Fin 64, x0 (ix3 b q ⟨h.val * 128 + c.val * 64 + d.val, by omega⟩) * x0 (ix3 b k ⟨1024 + (h.val * 128 + c.val * 64 + d.val), by omega⟩)

set_option maxHeartbeats 1600000 in
/-- The reference's scores, read at a point. -/
theorem v19_eq (b : Fin 16) (h : Fin 8) (c : Fin 2) (q k : Fin 2048) :
    val_main_v19 x0 (ix5 b h c q k) = score x0 b h c q k := by
  pointwise [Cert.AttnRefIdeal.Read.val_main_v0, Cert.AttnRefIdeal.Read.val_main_v1, Cert.AttnRefIdeal.Read.val_main_v2, Cert.AttnRefIdeal.Read.val_main_v4, Cert.AttnRefIdeal.Read.val_main_v5, Cert.AttnRefIdeal.Read.val_main_v19, score]

set_option maxHeartbeats 1600000 in
/-- The reference's mixing weight. -/
theorem v18_eq (i : Cert.AttnRefIdeal.S_.Idx) :
    val_main_v18 x1 x2 x3 x4 i = Ideal.exp (∑ d : Fin 64, x1 (ix2 0 d) * x2 (ix2 0 d)) - Ideal.exp (∑ d : Fin 64, x3 (ix2 0 d) * x4 (ix2 0 d))
      + Ideal.ofBits FTy.f32 1045220557#32 := by
  pointwise [Cert.AttnRefIdeal.Read.val_main_v7, Cert.AttnRefIdeal.Read.val_main_v8, Cert.AttnRefIdeal.Read.val_main_v9, Cert.AttnRefIdeal.Read.val_main_cst, Cert.AttnRefIdeal.Read.val_main_v10, Cert.AttnRefIdeal.Read.val_main_v11, Cert.AttnRefIdeal.Read.val_main_v12, Cert.AttnRefIdeal.Read.val_main_v13, Cert.AttnRefIdeal.Read.val_main_v14, Cert.AttnRefIdeal.Read.val_main_cst_0, Cert.AttnRefIdeal.Read.val_main_v15, Cert.AttnRefIdeal.Read.val_main_v16, Cert.AttnRefIdeal.Read.val_main_v17, Cert.AttnRefIdeal.Read.val_main_cst_1, Cert.AttnRefIdeal.Read.val_main_v18]

set_option maxHeartbeats 1600000 in
/-- The reference's values, read at a point. -/
theorem v6_eq (b : Fin 16) (k : Fin 2048) (h : Fin 8) (e : Fin 128) :
    val_main_v6 x0 (ix4 b k h e) = x0 (ix3 b k ⟨2048 + (h.val * 128 + e.val), by omega⟩) := by
  pointwise [Cert.AttnRefIdeal.Read.val_main_v0, Cert.AttnRefIdeal.Read.val_main_v3, Cert.AttnRefIdeal.Read.val_main_v6]

set_option maxHeartbeats 1600000 in
/-- The largest score of a row. -/
theorem v20_eq (b : Fin 16) (h : Fin 8) (c : Fin 2) (q : Fin 2048) :
    val_main_v20 x0 (ix4 b h c q) = Finset.fold max low (fun j : Fin 2048 => val_main_v19 x0 (ix5 b h c q j)) Finset.univ := by
  pointwise [Cert.AttnRefIdeal.Read.val_main_cst_2, Cert.AttnRefIdeal.Read.val_main_v20]

set_option maxHeartbeats 1600000 in
/-- A score exponentiated against the largest of its row. -/
theorem v26_eq (b : Fin 16) (h : Fin 8) (c : Fin 2) (q k : Fin 2048) :
    val_main_v26 x0 (ix5 b h c q k) = Ideal.exp (val_main_v19 x0 (ix5 b h c q k) - max low (val_main_v20 x0 (ix4 b h c q))) := by
  have e : idx_main_v23 (idx_main_v24 (ix5 b h c q k)) = ix4 b h c q := by
    funext a
    fin_cases a <;> rfl
  rw [val_main_v26_apply, val_main_v25_apply, val_main_v24_apply, val_main_v23_apply, e, val_main_v22_apply, val_main_v21_apply, val_main_cst_3_apply]
  generalize val_main_v19 x0 (ix5 b h c q k) = s
  generalize val_main_v20 x0 (ix4 b h c q) = m
  rfl

set_option maxHeartbeats 1600000 in
/-- A softmax weight over the exponentials. -/
theorem v30_eq (b : Fin 16) (h : Fin 8) (c : Fin 2) (q k : Fin 2048) :
    val_main_v30 x0 (ix5 b h c q k) = Ideal.div (val_main_v26 x0 (ix5 b h c q k)) (∑ j : Fin 2048, val_main_v26 x0 (ix5 b h c q j)) := by
  pointwise [Cert.AttnRefIdeal.Read.val_main_cst_4, Cert.AttnRefIdeal.Read.val_main_v27, Cert.AttnRefIdeal.Read.val_main_v28, Cert.AttnRefIdeal.Read.val_main_v29, Cert.AttnRefIdeal.Read.val_main_v30]

set_option maxHeartbeats 1600000 in
/-- The first branch's weights. -/
theorem v32_eq (b : Fin 16) (h : Fin 8) (q k : Fin 2048) :
    val_main_v32 x0 (ix4 b h q k) = val_main_v30 x0 (ix5 b h 0 q k) := by
  pointwise [Cert.AttnRefIdeal.Read.val_main_v31, Cert.AttnRefIdeal.Read.val_main_v32]

set_option maxHeartbeats 1600000 in
/-- The second branch's weights. -/
theorem v34_eq (b : Fin 16) (h : Fin 8) (q k : Fin 2048) :
    val_main_v34 x0 (ix4 b h q k) = val_main_v30 x0 (ix5 b h 1 q k) := by
  pointwise [Cert.AttnRefIdeal.Read.val_main_v33, Cert.AttnRefIdeal.Read.val_main_v34]

set_option maxHeartbeats 1600000 in
/-- The mixed weights. -/
theorem v37_eq (b : Fin 16) (h : Fin 8) (q k : Fin 2048) :
    val_main_v37 x0 x1 x2 x3 x4 (ix4 b h q k) = val_main_v32 x0 (ix4 b h q k) - val_main_v18 x1 x2 x3 x4 ix0 * val_main_v34 x0 (ix4 b h q k) := by
  rw [val_main_v37_apply, val_main_v36_apply, val_main_v35_apply]
  have e : idx_main_v35 (ix4 b h q k) = ix0 := by
    funext a
    exact a.elim0
  rw [e]
  generalize val_main_v32 x0 (ix4 b h q k) = s
  generalize val_main_v34 x0 (ix4 b h q k) = t
  generalize val_main_v18 x1 x2 x3 x4 ix0 = l
  rfl

set_option maxHeartbeats 1600000 in
/-- The mixed weights contracted with the values. -/
theorem v39_eq (b : Fin 16) (q : Fin 2048) (h : Fin 8) (e : Fin 128) :
    val_main_v39 x0 x1 x2 x3 x4 (ix4 b q h e) = ∑ j : Fin 2048, val_main_v6 x0 (ix4 b j h e) * val_main_v37 x0 x1 x2 x3 x4 (ix4 b h q j) := by
  pointwise [Cert.AttnRefIdeal.Read.val_main_v38, Cert.AttnRefIdeal.Read.val_main_v39]

/-- One element of the reference's attention before its norm: the values contracted with the two branches' weights mixed. -/
theorem mixed_eq (b : Fin 16) (q : Fin 2048) (h : Fin 8) (e : Fin 128) :
    val_main_v39 x0 x1 x2 x3 x4 (ix4 b q h e) = ∑ j : Fin 2048, x0 (ix3 b j ⟨2048 + (h.val * 128 + e.val), by omega⟩)
      * (weight (fun k => score x0 b h 0 q k) j
        - (Ideal.exp (∑ d : Fin 64, x1 (ix2 0 d) * x2 (ix2 0 d)) - Ideal.exp (∑ d : Fin 64, x3 (ix2 0 d) * x4 (ix2 0 d))
            + Ideal.ofBits FTy.f32 1045220557#32) * weight (fun k => score x0 b h 1 q k) j) := by
  have hw : ∀ (c : Fin 2) (j : Fin 2048), val_main_v30 x0 (ix5 b h c q j) = weight (fun k => score x0 b h c q k) j := fun c j => by
    simp only [v30_eq, v26_eq, v20_eq, v19_eq]
    rfl
  rw [v39_eq]
  refine Finset.sum_congr rfl fun j _ => ?_
  rw [v6_eq, v37_eq, v32_eq, v34_eq, hw, hw, v18_eq]

/-- The reference's result, read at a point of one head: the normalization of that query's mixed attention. -/
theorem v57_eq (x5 : Vec Ideal Cert.AttnRefIdeal.S1x128 .f32) (b : Fin 16) (q : Fin 2048) (h : Fin 8) (e : Fin 128) :
    val_main_v57 x0 x1 x2 x3 x4 x5 (ix3 b q ⟨h.val * 128 + e.val, by omega⟩)
      = post (fun x => val_main_v39 x0 x1 x2 x3 x4 (ix4 b q h x)) (fun x => x5 (ix2 0 x)) e := by
  have hb := b.isLt
  have hq := q.isLt
  have hh := h.isLt
  have he := e.isLt
  have e56 : idx_main_v56 (ix3 b q ⟨h.val * 128 + e.val, by omega⟩) = ix4 b q h e := by
    funext a
    refine Fin.ext ?_
    fin_cases a
    · show ((b.val * 2048 + q.val) * 1024 + (h.val * 128 + e.val)) / 2097152 = b.val
      omega
    · show ((b.val * 2048 + q.val) * 1024 + (h.val * 128 + e.val)) / 1024 % 2048 = q.val
      omega
    · show ((b.val * 2048 + q.val) * 1024 + (h.val * 128 + e.val)) / 128 % 8 = h.val
      omega
    · show ((b.val * 2048 + q.val) * 1024 + (h.val * 128 + e.val)) % 128 = e.val
      omega
  have e40 : idx_main_v40 (idx_main_v51 (idx_main_v52 (ix4 b q h e))) = ix2 0 e := by
    funext a
    refine Fin.ext ?_
    fin_cases a
    · rfl
    · exact Nat.mod_eq_of_lt he
  have e43 : idx_main_v43 (idx_main_v49 (ix4 b q h e)) = ix3 b q h := by
    funext a
    fin_cases a <;> rfl
  have e42 : ∀ x : Fin 128, idx_main_v42 (ix3 b q h) x = ix4 b q h x := fun x => by
    funext a
    fin_cases a <;> rfl
  rw [val_main_v57_apply, val_main_v56_apply, e56, val_main_v55_apply, val_main_v54_apply, val_main_cst_8_apply, val_main_v53_apply, val_main_v52_apply, val_main_v51_apply, val_main_v40_apply, e40, val_main_v50_apply, val_main_v49_apply, val_main_v48_apply, val_main_v47_apply, val_main_v46_apply, val_main_cst_7_apply, val_main_v45_apply, val_main_v44_apply, val_main_cst_6_apply, val_main_v43_apply, val_main_v42_apply, val_main_cst_5_apply, e43]
  simp only [e42, val_main_v41_apply]
  generalize val_main_v39 x0 x1 x2 x3 x4 = o
  show o _ * Ideal.rsqrt (Ideal.div (Ideal.ofBits FTy.f32 0x00000000#32 + ∑ x : Fin 128, o (ix4 b q h x) * o (ix4 b q h x)) _ + _) * _ * _ = _
  rw [Ideal.ofBits_zero_f32, zero_add]
  rfl

end Cert.AttnRefIdeal.Hand

end
-- ==== Proof.Attn.lean ====
module

public import proofs.«01_k».proof.Pre_finite_inputs
public import proofs.«01_k».proof.Proof.AttnKer
public import proofs.«01_k».proof.Proof.AttnRef
public import Idealize.ShloMosaic.Lib.ReduceAll
public import Idealize.ShloMosaic.Lib.Claim
public import Idealize.ShloMosaic.Lib.Pipeline.ValueKit
public import Idealize.ShloMosaic.Lib.Pointwise

@[expose] public section

set_option maxRecDepth 16384

noncomputable section

namespace Cert.AttnIdeal.Hand

open Idealize.ShloMosaic Idealize.ShloMosaic.TcCoe Idealize.SL.Sem
open Idealize.ShloMosaic.Pipeline (Dat)
open Cert.AttnIdeal Cert.AttnIdeal.Gen Cert.AttnMath

/-- An element whose absolute value compares below the infinity is a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- Two flags whose conjunction is set are both set. -/
theorem and_set (a b : BitVec 1) (h : IntOp.andi a b = 1#1) : a = 1#1 ∧ b = 1#1 := by
  revert a b
  decide

section
variable [Cert.Pre_finite_inputs.Facts]

instance : Subsingleton Cert.Pre_finite_inputs.S_.Idx := ⟨fun a b => funext fun i => i.elim0⟩

/-- The precondition says that the queries, keys and values and the four vectors are real numbers. -/
theorem finite (x0 : FVec Ideal Cert.Pre_finite_inputs.S16x2048x3072 .bf16) (x1 x2 x3 x4 : FVec Ideal Cert.Pre_finite_inputs.S1x64 .f32)
    (x5 : FVec Ideal Cert.Pre_finite_inputs.S1x128 .f32) (h : Cert.Pre_finite_inputs.fn (F := Ideal) x0 x1 x2 x3 x4 x5 = (fun _ => 1#1)) :
    (∀ i, ∃ r : ℝ, x0 i = r) ∧ (∀ i, ∃ r : ℝ, x1 i = r) ∧ (∀ i, ∃ r : ℝ, x2 i = r) ∧ (∀ i, ∃ r : ℝ, x3 i = r) ∧ (∀ i, ∃ r : ℝ, x4 i = r) := by
  have h1 := congrFun h ix0
  obtain ⟨h2, k4⟩ := and_set _ _ h1
  obtain ⟨h3, k3⟩ := and_set _ _ h2
  obtain ⟨h4, k2⟩ := and_set _ _ h3
  obtain ⟨k0, k1⟩ := and_set _ _ h4
  exact ⟨fun i => real_of_lt _ (Host.reduce_andi_all _ _ _ _ _ k0 i), fun i => real_of_lt _ (Host.reduce_andi_all _ _ _ _ _ k1 i),
    fun i => real_of_lt _ (Host.reduce_andi_all _ _ _ _ _ k2 i), fun i => real_of_lt _ (Host.reduce_andi_all _ _ _ _ _ k3 i),
    fun i => real_of_lt _ (Host.reduce_andi_all _ _ _ _ _ k4 i)⟩
end

/-- One element of the kernel's block is the reference's element, of the blocks' reads and finite inputs. -/
theorem core (X : Vec Ideal Cert.AttnRefIdeal.S16x2048x3072 .bf16) (x1 x2 x3 x4 : Vec Ideal Cert.AttnRefIdeal.S1x64 .f32)
    (x5 : Vec Ideal Cert.AttnRefIdeal.S1x128 .f32) (q : Vec Ideal S1x512x128 .bf16) (k v : Vec Ideal S1x2048x128 .bf16)
    (l : Vec Ideal S4x64 .f32) (g : Vec Ideal S1x128 .f32) (b : Fin 16) (h : Fin 8) (i : Fin 4)
    (hq : ∀ (r : Fin 512) (d : Fin 128), q (ix3 0 r d) = X (ix3 b ⟨i.val * 512 + r.val, by omega⟩ ⟨h.val * 128 + d.val, by omega⟩))
    (hk : ∀ (j : Fin 2048) (d : Fin 128), k (ix3 0 j d) = X (ix3 b j ⟨1024 + (h.val * 128 + d.val), by omega⟩))
    (hv : ∀ (j : Fin 2048) (d : Fin 128), v (ix3 0 j d) = X (ix3 b j ⟨2048 + (h.val * 128 + d.val), by omega⟩))
    (h0 : ∀ d : Fin 64, l (ix2 0 d) = x1 (ix2 0 d)) (h1 : ∀ d : Fin 64, l (ix2 1 d) = x2 (ix2 0 d))
    (h2 : ∀ d : Fin 64, l (ix2 2 d) = x3 (ix2 0 d)) (h3 : ∀ d : Fin 64, l (ix2 3 d) = x4 (ix2 0 d))
    (hg : ∀ d : Fin 128, g (ix2 0 d) = x5 (ix2 0 d))
    (f0 : ∀ i, ∃ r : ℝ, X i = r) (f1 : ∀ i, ∃ r : ℝ, x1 i = r) (f2 : ∀ i, ∃ r : ℝ, x2 i = r) (f3 : ∀ i, ∃ r : ℝ, x3 i = r)
    (f4 : ∀ i, ∃ r : ℝ, x4 i = r) (r : Fin 512) (e : Fin 128) :
    k0_pay1 (k0_pay6 q k v) (k0_pay8 q k v) (k0_pay9 q k) l g (ix3 0 r e)
      = Cert.AttnRefIdeal.Read.val_main_v57 X x1 x2 x3 x4 x5 (ix3 b ⟨i.val * 512 + r.val, by omega⟩ ⟨h.val * 128 + e.val, by omega⟩) := by
  rw [pay1_eq, Cert.AttnRefIdeal.Hand.v57_eq X x1 x2 x3 x4 x5 b ⟨i.val * 512 + r.val, by omega⟩ h e]
  have hg' : (fun x : Fin 128 => g (ix2 0 x)) = fun x => x5 (ix2 0 x) := funext hg
  rw [hg']
  refine congrFun (congrFun (congrArg AttnMath.post (funext fun x => ?_)) _) _
  rw [pay6_eq, pay89_eq, Cert.AttnRefIdeal.Hand.mixed_eq]
  have hS : (fun j : Fin 2048 => ∑ d : Fin 64, q (ix3 0 r ⟨d.val, by omega⟩) * k (ix3 0 j ⟨d.val, by omega⟩))
      = fun j => Cert.AttnRefIdeal.Hand.score X b h 0 ⟨i.val * 512 + r.val, by omega⟩ j := by
    funext j
    unfold Cert.AttnRefIdeal.Hand.score
    refine Finset.sum_congr rfl fun d _ => ?_
    rw [hq, hk]
    rfl
  have hT : (fun j : Fin 2048 => ∑ d : Fin 64, q (ix3 0 r ⟨64 + d.val, by omega⟩) * k (ix3 0 j ⟨64 + d.val, by omega⟩))
      = fun j => Cert.AttnRefIdeal.Hand.score X b h 1 ⟨i.val * 512 + r.val, by omega⟩ j := by
    funext j
    unfold Cert.AttnRefIdeal.Hand.score
    refine Finset.sum_congr rfl fun d _ => ?_
    rw [hq, hk]
    have e1 : h.val * 128 + (64 + d.val) = h.val * 128 + (1 : Fin 2).val * 64 + d.val := by
      show _ = h.val * 128 + 1 * 64 + d.val
      omega
    simp only [e1]
  have hV : (fun j : Fin 2048 => v (ix3 0 j x)) = fun j => X (ix3 b j ⟨2048 + (h.val * 128 + x.val), by omega⟩) :=
    funext fun j => hv j x
  have hL : lam l = Ideal.exp (∑ d : Fin 64, x1 (ix2 0 d) * x2 (ix2 0 d)) - Ideal.exp (∑ d : Fin 64, x3 (ix2 0 d) * x4 (ix2 0 d))
      + Ideal.ofBits FTy.f32 1045220557#32 := by
    unfold lam
    simp only [h0, h1, h2, h3]
  rw [hS, hT, hV, hL]
  exact mix (by decide) _ _ _ _ (fun j => dot_real _ _ (fun d => f0 _) (fun d => f0 _)) (fun j => dot_real _ _ (fun d => f0 _) (fun d => f0 _))
    (fun j => f0 _) (lam_real _ _ (dot_real _ _ (fun d => f1 _) (fun d => f2 _)) (dot_real _ _ (fun d => f3 _) (fun d => f4 _)))

variable (m : (ℓ : Loc nD τ sig) → Buf (Elt Ideal) ℓ)

/-- Each window's block index as a closed form of the grid point. -/
theorem idx : ∀ t : Fin cfg0.N,
    win0_0.index t = ![0, 0] ∧ win0_1.index t = ![0, 0] ∧ win0_2.index t = ![t.val / 32, t.val % 4, t.val / 4 % 8]
    ∧ win0_3.index t = ![t.val / 32, 0, 8 + t.val / 4 % 8] ∧ win0_4.index t = ![t.val / 32, 0, 16 + t.val / 4 % 8]
    ∧ win0_5.index t = ![t.val / 32, t.val % 4, t.val / 4 % 8] :=
  (by decide +kernel : ∀ t : Fin grid0.N, _)

set_option maxHeartbeats 1600000 in
/-- The four vectors stacked, as the region finds them. -/
theorem stacked (c : Dev nD) : V m c main_v8 = (concatenate S4x64 0 [⟨S1x64, broadcastInDim S1x64 ![1] Gen.bcast_S64_S1x64_1 (shapeCast S64 (m ((c : Thread nD τ).loc main_arg1)) Gen.shapeCasts_S1x64_S64)⟩, ⟨S1x64, broadcastInDim S1x64 ![1] Gen.bcast_S64_S1x64_1 (shapeCast S64 (m ((c : Thread nD τ).loc main_arg2)) Gen.shapeCasts_S1x64_S64)⟩, ⟨S1x64, broadcastInDim S1x64 ![1] Gen.bcast_S64_S1x64_1 (shapeCast S64 (m ((c : Thread nD τ).loc main_arg3)) Gen.shapeCasts_S1x64_S64)⟩, ⟨S1x64, broadcastInDim S1x64 ![1] Gen.bcast_S64_S1x64_1 (shapeCast S64 (m ((c : Thread nD τ).loc main_arg4)) Gen.shapeCasts_S1x64_S64)⟩] Gen.concatenates_S1x64_S1x64_S1x64_S1x64_S4x64_d0 : FVec Ideal S4x64 .f32) := by
  unfold V
  after_results_simp
  rfl

set_option maxHeartbeats 1600000 in
/-- Row 0 of the stacked vectors is argument 1. -/
theorem lamv0 (c : Dev nD) (t : Fin cfg0.N) (d : Fin 64) :
    (iblk m c 0 t : Vec Ideal S4x64 .f32) (ix2 0 d) = (m ((c : Thread nD τ).loc main_arg1)) (ix2 0 d) := by
  have he : ((cfg0.win 0).blk t).view.emb (ix2 0 d) = ix2 0 d := by
    blk_ext [idx t]
  show (V m c main_v8 : Vec Ideal S4x64 .f32) (((cfg0.win 0).blk t).view.emb (ix2 0 d)) = _
  rw [he, stacked]
  pointwise

set_option maxHeartbeats 1600000 in
/-- Row 1 of the stacked vectors is argument 2. -/
theorem lamv1 (c : Dev nD) (t : Fin cfg0.N) (d : Fin 64) :
    (iblk m c 0 t : Vec Ideal S4x64 .f32) (ix2 1 d) = (m ((c : Thread nD τ).loc main_arg2)) (ix2 0 d) := by
  have he : ((cfg0.win 0).blk t).view.emb (ix2 1 d) = ix2 1 d := by
    blk_ext [idx t]
  show (V m c main_v8 : Vec Ideal S4x64 .f32) (((cfg0.win 0).blk t).view.emb (ix2 1 d)) = _
  rw [he, stacked]
  pointwise

set_option maxHeartbeats 1600000 in
/-- Row 2 of the stacked vectors is argument 3. -/
theorem lamv2 (c : Dev nD) (t : Fin cfg0.N) (d : Fin 64) :
    (iblk m c 0 t : Vec Ideal S4x64 .f32) (ix2 2 d) = (m ((c : Thread nD τ).loc main_arg3)) (ix2 0 d) := by
  have he : ((cfg0.win 0).blk t).view.emb (ix2 2 d) = ix2 2 d := by
    blk_ext [idx t]
  show (V m c main_v8 : Vec Ideal S4x64 .f32) (((cfg0.win 0).blk t).view.emb (ix2 2 d)) = _
  rw [he, stacked]
  pointwise

set_option maxHeartbeats 1600000 in
/-- Row 3 of the stacked vectors is argument 4. -/
theorem lamv3 (c : Dev nD) (t : Fin cfg0.N) (d : Fin 64) :
    (iblk m c 0 t : Vec Ideal S4x64 .f32) (ix2 3 d) = (m ((c : Thread nD τ).loc main_arg4)) (ix2 0 d) := by
  have he : ((cfg0.win 0).blk t).view.emb (ix2 3 d) = ix2 3 d := by
    blk_ext [idx t]
  show (V m c main_v8 : Vec Ideal S4x64 .f32) (((cfg0.win 0).blk t).view.emb (ix2 3 d)) = _
  rw [he, stacked]
  pointwise

set_option maxHeartbeats 1600000 in
/-- The gain is the last argument. -/
theorem gain (c : Dev nD) (t : Fin cfg0.N) (d : Fin 128) :
    (iblk m c 1 t : Vec Ideal S1x128 .f32) (ix2 0 d) = (m ((c : Thread nD τ).loc main_arg5)) (ix2 0 d) := by
  have he : ((cfg0.win 1).blk t).view.emb (ix2 0 d) = ix2 0 d := by
    blk_ext [idx t]
  show (V m c main_v10 : Vec Ideal S1x128 .f32) (((cfg0.win 1).blk t).view.emb (ix2 0 d)) = _
  rw [he]
  entry_read
  pointwise

set_option maxHeartbeats 1600000 in
/-- What the body leaves at a point is the reference's block there. -/
theorem point [Cert.Pre_finite_inputs.Facts] (c : Dev nD) (h : (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) = (fun _ => 1#1)) (t : Fin cfg0.N) (y) :
    k0_pay1 (k0_pay6 (iblk m c 2 t) (iblk m c 3 t) (iblk m c 4 t)) (k0_pay8 (iblk m c 2 t) (iblk m c 3 t) (iblk m c 4 t))
        (k0_pay9 (iblk m c 2 t) (iblk m c 3 t)) (iblk m c 0 t) (iblk m c 1 t) y
    = Cert.AttnRefIdeal.Read.val_main_v57 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 5).blk t).view.emb y) := by
  obtain ⟨f0, f1, f2, f3, f4⟩ := finite _ _ _ _ _ _ h
  have ht : t.val < 512 := t.isLt
  have H := core (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (iblk m c 2 t) (iblk m c 3 t) (iblk m c 4 t) (iblk m c 0 t) (iblk m c 1 t)
    ⟨t.val / 32, by omega⟩ ⟨t.val / 4 % 8, by omega⟩ ⟨t.val % 4, by omega⟩
    (fun r d => by blk_ext [iblk, V, idx t]) (fun r d => by blk_ext [iblk, V, idx t]) (fun r d => by blk_ext [iblk, V, idx t])
    (lamv0 m c t) (lamv1 m c t) (lamv2 m c t) (lamv3 m c t) (gain m c t) f0 f1 f2 f3 f4 (y 1) (y 2)
  have hy : y = ix3 0 (y 1) (y 2) := by
    funext a
    fin_cases a
    · exact Subsingleton.elim (α := Fin 1) _ _
    · rfl
    · rfl
  have he : ((cfg0.win 5).blk t).view.emb y = ix3 ⟨t.val / 32, by omega⟩ ⟨t.val % 4 * 512 + (y 1).val, by have h1 : (y 1).val < 512 := (y 1).isLt; omega⟩
      ⟨t.val / 4 % 8 * 128 + (y 2).val, by have h2 : (y 2).val < 128 := (y 2).isLt; omega⟩ := by
    blk_ext [idx t]
  rw [he]
  refine Eq.trans ?_ H
  exact congrArg _ hy

/-- After the run the result is the reference's. -/
theorem final [Cert.Pre_finite_inputs.Facts] (c : Dev nD) (h : (Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) = (fun _ => 1#1)) : (dats m 0 c).arrAt 5 (cfgs 0).N
    = Cert.AttnRefIdeal.Read.val_main_v57 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t _ y => ?_
  blk_simp
  rw [after0_5]; frame_out
  exact point m c h t y

end Cert.AttnIdeal.Hand

end
-- ==== Proof.FfnHost.lean ====
module

public import proofs.«01_k».proof.Proof.Gen.FfnIdeal.Frame
public import Idealize.ShloMosaic.Lib.Pipeline.ValueKit
public import Idealize.ShloMosaic.Lib.Pointwise

@[expose] public section

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen

variable (m : (ℓ : Loc nD τ sig) → Buf (Elt Ideal) ℓ)

/-- Each window's block index as a closed form of the grid point. -/
theorem idx : ∀ t : Fin cfg0.N,
    win0_0.index t = ![32 * t.val - 1, 0, 0] ∧ win0_1.index t = ![t.val, 0, 0] ∧ win0_2.index t = ![min (32 * t.val + 32) 2047, 0, 0]
    ∧ win0_3.index t = ![0, 0] ∧ win0_4.index t = ![0, 0] ∧ win0_5.index t = ![0, 0] ∧ win0_6.index t = ![0, 0] ∧ win0_7.index t = ![0, 0]
    ∧ win0_8.index t = ![0, 0, 0] ∧ win0_9.index t = ![0, 0, 0] ∧ win0_10.index t = ![0, 0, 0] ∧ win0_11.index t = ![0, 0, 0]
    ∧ win0_12.index t = ![t.val, 0, 0] :=
  (by decide +kernel : ∀ t : Fin grid0.N, _)

set_option maxHeartbeats 1600000 in
/-- The row before the point's own. -/
theorem prev (c : Dev nD) (t : Fin cfg0.N) (b : Fin 16) (d : Fin 1024) (p : Fin 2048) (hp : p.val = 32 * t.val - 1) :
    (iblk m c 0 t : Vec Ideal S1x16x1024 .f32) (ix3 0 b d) = (m ((c : Thread nD τ).loc main_arg0) : Vec Ideal S2048x16x1024 .f32) (ix3 p b d) := by
  blk_point [iblk, V, idx t, hp]

set_option maxHeartbeats 1600000 in
/-- The point's own rows. -/
theorem here (c : Dev nD) (t : Fin cfg0.N) (s : Fin 32) (b : Fin 16) (d : Fin 1024) (p : Fin 2048) (hp : p.val = t.val * 32 + s.val) :
    (iblk m c 1 t : Vec Ideal S32x16x1024 .f32) (ix3 s b d) = (m ((c : Thread nD τ).loc main_arg0) : Vec Ideal S2048x16x1024 .f32) (ix3 p b d) := by
  blk_point [iblk, V, idx t, hp]

set_option maxHeartbeats 1600000 in
/-- The row after the point's own. -/
theorem next (c : Dev nD) (t : Fin cfg0.N) (b : Fin 16) (d : Fin 1024) (p : Fin 2048) (hp : p.val = min (32 * t.val + 32) 2047) :
    (iblk m c 2 t : Vec Ideal S1x16x1024 .f32) (ix3 0 b d) = (m ((c : Thread nD τ).loc main_arg0) : Vec Ideal S2048x16x1024 .f32) (ix3 p b d) := by
  blk_point [iblk, V, idx t, hp]

set_option maxHeartbeats 1600000 in
/-- The modulation scale. -/
theorem scale (c : Dev nD) (t : Fin cfg0.N) (b : Fin 16) (d : Fin 1024) :
    (iblk m c 4 t : Vec Ideal S16x1024 .f32) (ix2 b d) = (m ((c : Thread nD τ).loc main_arg2) : Vec Ideal S16x1024 .f32) (ix2 b d) := by
  blk_point [iblk, V, idx t]

set_option maxHeartbeats 1600000 in
/-- The modulation shift. -/
theorem shift (c : Dev nD) (t : Fin cfg0.N) (b : Fin 16) (d : Fin 1024) :
    (iblk m c 5 t : Vec Ideal S16x1024 .f32) (ix2 b d) = (m ((c : Thread nD τ).loc main_arg3) : Vec Ideal S16x1024 .f32) (ix2 b d) := by
  blk_point [iblk, V, idx t]

set_option maxHeartbeats 1600000 in
/-- The gate of the residual. -/
theorem gate2 (c : Dev nD) (t : Fin cfg0.N) (b : Fin 16) (d : Fin 1024) :
    (iblk m c 6 t : Vec Ideal S16x1024 .f32) (ix2 b d) = (m ((c : Thread nD τ).loc main_arg4) : Vec Ideal S16x1024 .f32) (ix2 b d) := by
  blk_point [iblk, V, idx t]

set_option maxHeartbeats 1600000 in
/-- The gain of the norm. -/
theorem gain (c : Dev nD) (t : Fin cfg0.N) (d : Fin 1024) :
    (iblk m c 3 t : Vec Ideal S1x1024 .f32) (ix2 0 d) = (m ((c : Thread nD τ).loc main_arg1) : Vec Ideal S1x1024 .f32) (ix2 0 d) := by
  have he : ((cfg0.win 3).blk t).view.emb (ix2 0 d) = ix2 0 d := by
    blk_ext [idx t]
  show (V m c main_v1 : Vec Ideal S1x1024 .f32) (((cfg0.win 3).blk t).view.emb (ix2 0 d)) = _
  rw [he]
  entry_read
  pointwise

set_option maxHeartbeats 1600000 in
/-- The gain of the last norm. -/
theorem fgain (c : Dev nD) (t : Fin cfg0.N) (d : Fin 1024) :
    (iblk m c 7 t : Vec Ideal S1x1024 .f32) (ix2 0 d) = (m ((c : Thread nD τ).loc main_arg5) : Vec Ideal S1024 .f32) (ix1 d) := by
  have he : ((cfg0.win 7).blk t).view.emb (ix2 0 d) = ix2 0 d := by
    blk_ext [idx t]
  show (V m c main_v2 : Vec Ideal S1x1024 .f32) (((cfg0.win 7).blk t).view.emb (ix2 0 d)) = _
  rw [he]
  entry_read
  pointwise

set_option maxHeartbeats 1600000 in
/-- The up projection of a chunk, its value columns. -/
theorem wup_value (c : Dev nD) (t : Fin cfg0.N) (k : Fin 11) (j : Fin 1024) (f : Fin 256) :
    (iblk m c 8 t : Vec Ideal S11x1024x512 .bf16) (ix3 k j ⟨f.val, by omega⟩) = (m ((c : Thread nD τ).loc main_arg6) : Vec Ideal S1x1024x5632 .f32) (ix3 0 j ⟨k.val * 256 + f.val, by omega⟩) := by
  have he : ((cfg0.win 8).blk t).view.emb (ix3 k j ⟨f.val, by omega⟩) = ix3 k j ⟨f.val, by omega⟩ := by
    blk_ext [idx t]
  show (V m c main_v10 : Vec Ideal S11x1024x512 .bf16) (((cfg0.win 8).blk t).view.emb (ix3 k j ⟨f.val, by omega⟩)) = _
  rw [he]
  entry_read
  pointwise

set_option maxHeartbeats 1600000 in
/-- The taps of a chunk, its value columns. -/
theorem taps_value (c : Dev nD) (t : Fin cfg0.N) (k : Fin 11) (j : Fin 3) (f : Fin 256) :
    (iblk m c 9 t : Vec Ideal S11x3x512 .f32) (ix3 k j ⟨f.val, by omega⟩) = (m ((c : Thread nD τ).loc main_arg7) : Vec Ideal S1x3x5632 .f32) (ix3 0 j ⟨k.val * 256 + f.val, by omega⟩) := by
  have he : ((cfg0.win 9).blk t).view.emb (ix3 k j ⟨f.val, by omega⟩) = ix3 k j ⟨f.val, by omega⟩ := by
    blk_ext [idx t]
  show (V m c main_v17 : Vec Ideal S11x3x512 .f32) (((cfg0.win 9).blk t).view.emb (ix3 k j ⟨f.val, by omega⟩)) = _
  rw [he]
  entry_read
  pointwise

set_option maxHeartbeats 1600000 in
/-- The bias of a chunk, its value columns. -/
theorem bias_value (c : Dev nD) (t : Fin cfg0.N) (k : Fin 11) (f : Fin 256) :
    (iblk m c 10 t : Vec Ideal S11x1x512 .f32) (ix3 k 0 ⟨f.val, by omega⟩) = (m ((c : Thread nD τ).loc main_arg8) : Vec Ideal S1x5632 .f32) (ix2 0 ⟨k.val * 256 + f.val, by omega⟩) := by
  have he : ((cfg0.win 10).blk t).view.emb (ix3 k 0 ⟨f.val, by omega⟩) = ix3 k 0 ⟨f.val, by omega⟩ := by
    blk_ext [idx t]
  show (V m c main_v25 : Vec Ideal S11x1x512 .f32) (((cfg0.win 10).blk t).view.emb (ix3 k 0 ⟨f.val, by omega⟩)) = _
  rw [he]
  entry_read
  pointwise

set_option maxHeartbeats 1600000 in
/-- The up projection of a chunk, its gate columns. -/
theorem wup_gate (c : Dev nD) (t : Fin cfg0.N) (k : Fin 11) (j : Fin 1024) (f : Fin 256) :
    (iblk m c 8 t : Vec Ideal S11x1024x512 .bf16) (ix3 k j ⟨256 + f.val, by omega⟩) = (m ((c : Thread nD τ).loc main_arg6) : Vec Ideal S1x1024x5632 .f32) (ix3 0 j ⟨2816 + (k.val * 256 + f.val), by omega⟩) := by
  have he : ((cfg0.win 8).blk t).view.emb (ix3 k j ⟨256 + f.val, by omega⟩) = ix3 k j ⟨256 + f.val, by omega⟩ := by
    blk_ext [idx t]
  show (V m c main_v10 : Vec Ideal S11x1024x512 .bf16) (((cfg0.win 8).blk t).view.emb (ix3 k j ⟨256 + f.val, by omega⟩)) = _
  rw [he]
  entry_read
  pointwise

set_option maxHeartbeats 1600000 in
/-- The taps of a chunk, its gate columns. -/
theorem taps_gate (c : Dev nD) (t : Fin cfg0.N) (k : Fin 11) (j : Fin 3) (f : Fin 256) :
    (iblk m c 9 t : Vec Ideal S11x3x512 .f32) (ix3 k j ⟨256 + f.val, by omega⟩) = (m ((c : Thread nD τ).loc main_arg7) : Vec Ideal S1x3x5632 .f32) (ix3 0 j ⟨2816 + (k.val * 256 + f.val), by omega⟩) := by
  have he : ((cfg0.win 9).blk t).view.emb (ix3 k j ⟨256 + f.val, by omega⟩) = ix3 k j ⟨256 + f.val, by omega⟩ := by
    blk_ext [idx t]
  show (V m c main_v17 : Vec Ideal S11x3x512 .f32) (((cfg0.win 9).blk t).view.emb (ix3 k j ⟨256 + f.val, by omega⟩)) = _
  rw [he]
  entry_read
  pointwise

set_option maxHeartbeats 1600000 in
/-- The bias of a chunk, its gate columns. -/
theorem bias_gate (c : Dev nD) (t : Fin cfg0.N) (k : Fin 11) (f : Fin 256) :
    (iblk m c 10 t : Vec Ideal S11x1x512 .f32) (ix3 k 0 ⟨256 + f.val, by omega⟩) = (m ((c : Thread nD τ).loc main_arg8) : Vec Ideal S1x5632 .f32) (ix2 0 ⟨2816 + (k.val * 256 + f.val), by omega⟩) := by
  have he : ((cfg0.win 10).blk t).view.emb (ix3 k 0 ⟨256 + f.val, by omega⟩) = ix3 k 0 ⟨256 + f.val, by omega⟩ := by
    blk_ext [idx t]
  show (V m c main_v25 : Vec Ideal S11x1x512 .f32) (((cfg0.win 10).blk t).view.emb (ix3 k 0 ⟨256 + f.val, by omega⟩)) = _
  rw [he]
  entry_read
  pointwise

set_option maxHeartbeats 1600000 in
/-- The down projection of a chunk. -/
theorem wdown (c : Dev nD) (t : Fin cfg0.N) (k : Fin 11) (f : Fin 256) (d : Fin 1024) :
    (iblk m c 11 t : Vec Ideal S11x256x1024 .bf16) (ix3 k f d) = (m ((c : Thread nD τ).loc main_arg9) : Vec Ideal S1x2816x1024 .f32) (ix3 0 ⟨k.val * 256 + f.val, by omega⟩ d) := by
  have he : ((cfg0.win 11).blk t).view.emb (ix3 k f d) = ix3 k f d := by
    blk_ext [idx t]
  show (V m c main_v28 : Vec Ideal S11x256x1024 .bf16) (((cfg0.win 11).blk t).view.emb (ix3 k f d)) = _
  rw [he]
  entry_read
  pointwise

end Cert.FfnIdeal.Hand

end
-- ==== Proof.FfnMath.lean ====
module

public import proofs.«01_k».proof.Proof.Gen.FfnRefIdeal.Read
public import Idealize.ShloMosaic.Lib.Pipeline.ValueKit
public import Idealize.ShloMosaic.Lib.Pointwise

@[expose] public section

set_option maxRecDepth 16384

noncomputable section

namespace Cert.FfnMath

open Idealize.ShloMosaic Idealize.ShloMosaic.TcCoe Idealize.SL.Sem
open Idealize.ShloMosaic.Pipeline (Dat)

/-- The constant one. -/
theorem one_bits : Ideal.ofBits FTy.f32 1065353216#32 = 1 := by
  pointwise []

/-- The reciprocal root of the mean square of a row. -/
def rms (x : Fin 1024 → EReal) : EReal :=
  Ideal.rsqrt (Ideal.div (∑ e, x e * x e) (Ideal.ofBits FTy.f32 1149239296#32) + Ideal.ofBits FTy.f32 897988541#32)

/-- A row normalized and scaled by a gain. -/
def nrm (x g : Fin 1024 → EReal) (d : Fin 1024) : EReal := x d * rms x * g d

/-- A row normalized, scaled, and modulated. -/
def mrow (x g sc sh : Fin 1024 → EReal) (d : Fin 1024) : EReal := nrm x g d * (1 + sc d) + sh d

/-- Three neighbours through the convolution's taps and bias. -/
def cv (b u0 w0 u1 w1 u2 w2 : EReal) : EReal := b + u0 * w0 + u1 * w1 + u2 * w2

/-- The gate applied to a value. -/
def act (g v : EReal) : EReal := g * Ideal.logistic g * v

variable (x0 : Vec Ideal Cert.FfnRefIdeal.S2048x16x1024 .f32) (x1 : Vec Ideal Cert.FfnRefIdeal.S1x1024 .f32)
  (x2 x3 x4 : Vec Ideal Cert.FfnRefIdeal.S16x1024 .f32)
  (x6 : Vec Ideal Cert.FfnRefIdeal.S1x1024x5632 .f32) (x7 : Vec Ideal Cert.FfnRefIdeal.S1x3x5632 .f32)
  (x8 : Vec Ideal Cert.FfnRefIdeal.S1x5632 .f32) (x9 : Vec Ideal Cert.FfnRefIdeal.S1x2816x1024 .f32)

/-- The modulated features of the padded sequence: zero at the two places added at its ends. -/
def hid (p : Fin 2050) (b : Fin 16) (j : Fin 1024) : EReal :=
  if h : 1 ≤ p.val ∧ p.val - 1 < 2048 then
    mrow (fun d => x0 (ix3 ⟨p.val - 1, h.2⟩ b d)) (fun d => x1 (ix2 0 d)) (fun d => x2 (ix2 b d)) (fun d => x3 (ix2 b d)) j
  else 0

/-- The up projection of the padded sequence. -/
def up (p : Fin 2050) (b : Fin 16) (e : Fin 5632) : EReal := ∑ j : Fin 1024, hid x0 x1 x2 x3 p b j * x6 (ix3 0 j e)

/-- The convolution at a place of the sequence. -/
def conv (p : Fin 2048) (b : Fin 16) (e : Fin 5632) : EReal :=
  cv (x8 (ix2 0 e)) (up x0 x1 x2 x3 x6 ⟨p.val, by omega⟩ b e) (x7 (ix3 0 0 e)) (up x0 x1 x2 x3 x6 ⟨1 + p.val, by omega⟩ b e) (x7 (ix3 0 1 e))
    (up x0 x1 x2 x3 x6 ⟨2 + p.val, by omega⟩ b e) (x7 (ix3 0 2 e))

/-- One gated element. -/
def gated (p : Fin 2048) (b : Fin 16) (f : Fin 2816) : EReal :=
  act (conv x0 x1 x2 x3 x6 x7 x8 p b ⟨2816 + f.val, by omega⟩) (conv x0 x1 x2 x3 x6 x7 x8 p b ⟨f.val, by omega⟩)

/-- The residual sum: the input with the gated down projection added. -/
def resid (p : Fin 2048) (b : Fin 16) (d : Fin 1024) : EReal :=
  x0 (ix3 p b d) + x4 (ix2 b d) * ∑ f : Fin 2816, gated x0 x1 x2 x3 x6 x7 x8 p b f * x9 (ix3 0 f d)

end Cert.FfnMath

end
-- ==== Proof.FfnKer.lean ====
module

public import proofs.«01_k».proof.Proof.Gen.FfnIdeal.Frame
public import proofs.«01_k».proof.Proof.FfnMath
public import Idealize.ShloMosaic.Lib.Pipeline.ValueKit
public import Idealize.ShloMosaic.Lib.Pointwise

@[expose] public section

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen Cert.FfnMath

set_option maxHeartbeats 1600000 in
/-- The point's own rows, normalized and modulated. -/
theorem pay5_eq (g : Vec Ideal S1x1024 .f32) (sc sh : Vec Ideal S16x1024 .f32) (x : Vec Ideal S32x16x1024 .f32) (s : Fin 32) (b : Fin 16) (j : Fin 1024) :
    k0_pay5 (k0_pay3 g) sc sh x (ix3 s b j)
      = mrow (fun d => x (ix3 s b d)) (fun d => g (ix2 0 d)) (fun d => sc (ix2 b d)) (fun d => sh (ix2 b d)) j := by
  pointwise [k0_pay5, k0_pay3, mrow, nrm, rms]

set_option maxHeartbeats 1600000 in
/-- The row before the point's own, normalized and modulated, times its flag. -/
theorem pay4_eq (i : grid0.Coords) (g : Vec Ideal S1x1024 .f32) (sc sh : Vec Ideal S16x1024 .f32) (x : Vec Ideal S1x16x1024 .f32) (b : Fin 16) (j : Fin 1024) :
    k0_pay4 i g sc sh x (ix3 0 b j)
      = mrow (fun d => x (ix3 0 b d)) (fun d => g (ix2 0 d)) (fun d => sc (ix2 b d)) (fun d => sh (ix2 b d)) j
        * (((Scalar.extui (Scalar.cmpi CmpIPredicate.sgt (BitVec.ofNat 32 (i 0).val) 0#32) : BitVec 32).toInt : ℝ) : EReal) := by
  pointwise [k0_pay4, k0_pay3, mrow, nrm, rms]

set_option maxHeartbeats 1600000 in
/-- The row after the point's own, normalized and modulated, times its flag. -/
theorem pay7_eq (i : grid0.Coords) (g : Vec Ideal S1x1024 .f32) (sc sh : Vec Ideal S16x1024 .f32) (x : Vec Ideal S1x16x1024 .f32) (b : Fin 16) (j : Fin 1024) :
    k0_pay7 (k0_pay2 i) (k0_pay6 (k0_pay3 g) sc sh x) (ix3 0 b j)
      = mrow (fun d => x (ix3 0 b d)) (fun d => g (ix2 0 d)) (fun d => sc (ix2 b d)) (fun d => sh (ix2 b d)) j
        * (((Scalar.extui (Scalar.cmpi CmpIPredicate.slt (BitVec.ofNat 32 (i 0).val) 63#32) : BitVec 32).toInt : ℝ) : EReal) := by
  pointwise [k0_pay7, k0_pay2, k0_pay6, k0_pay3, mrow, nrm, rms]

/-- The up projection of one of the rows held. -/
def kup (h : Vec Ideal S34x16x1024 .bf16) (w : Vec Ideal S1x1024x512 .bf16) (s : Fin 34) (b : Fin 16) (e : Fin 512) : EReal :=
  ∑ j : Fin 1024, h (ix3 s b j) * w (ix3 0 j e)

/-- The convolution of one of the point's rows, over one chunk. -/
def kconv (h : Vec Ideal S34x16x1024 .bf16) (w : Vec Ideal S1x1024x512 .bf16) (cw : Vec Ideal S1x3x512 .f32) (cb : Vec Ideal S1x1x512 .f32)
    (s : Fin 32) (b : Fin 16) (e : Fin 512) : EReal :=
  cv (cb (ix3 0 0 e)) (kup h w ⟨s.val, by omega⟩ b e) (cw (ix3 0 0 e)) (kup h w ⟨1 + s.val, by omega⟩ b e) (cw (ix3 0 1 e))
    (kup h w ⟨2 + s.val, by omega⟩ b e) (cw (ix3 0 2 e))

set_option maxHeartbeats 1600000 in
/-- What one chunk adds to the accumulator. -/
theorem pay1_eq (h : Vec Ideal S34x16x1024 .bf16) (w : Vec Ideal S1x1024x512 .bf16) (cw : Vec Ideal S1x3x512 .f32) (cb : Vec Ideal S1x1x512 .f32)
    (acc : Vec Ideal S512x1024 .f32) (wd : Vec Ideal S1x256x1024 .bf16) (s : Fin 32) (b : Fin 16) (d : Fin 1024) :
    k0_pay10 (k0_pay1 (k0_pay8 h) w cw cb acc wd) (ix2 ⟨s.val * 16 + b.val, by omega⟩ d)
      = acc (ix2 ⟨s.val * 16 + b.val, by omega⟩ d)
        + ∑ f : Fin 256, act (kconv h w cw cb s b ⟨256 + f.val, by omega⟩) (kconv h w cw cb s b ⟨f.val, by omega⟩) * wd (ix3 0 f d) := by
  pointwise [k0_pay10, k0_pay1, k0_pay8, kconv, kup, cv, act]
  simp only [show (s.val * 16 + b.val) / 16 = s.val by omega, show ((1 + s.val) * 16 + b.val) / 16 = 1 + s.val by omega, show ((2 + s.val) * 16 + b.val) / 16 = 2 + s.val by omega]

set_option maxHeartbeats 1600000 in
/-- The accumulator's start. -/
theorem pay9_eq (i : S512x1024.Idx) : k0_pay9 (F := Ideal) i = 0 := by
  pointwise [k0_pay9]

set_option maxHeartbeats 1600000 in
/-- The residual sum, normalized. -/
theorem pay11_eq (x : Vec Ideal S32x16x1024 .f32) (g2 : Vec Ideal S16x1024 .f32) (acc : Vec Ideal S512x1024 .f32) (fg : Vec Ideal S1x1024 .f32)
    (s : Fin 32) (b : Fin 16) (d : Fin 1024) :
    k0_pay11 x g2 acc fg (ix3 s b d)
      = nrm (fun e => x (ix3 s b e) + g2 (ix2 b e) * acc (ix2 ⟨s.val * 16 + b.val, by omega⟩ e)) (fun e => fg (ix2 0 e)) d := by
  pointwise [k0_pay11, nrm, rms]

/-- The grid's one coordinate. -/
theorem coord : ∀ t : Fin cfg0.N, (grid0.coords t 0).val = t.val := (by decide +kernel : ∀ t : Fin grid0.N, _)

/-- The flag of the row before: down at the first point. -/
theorem flag_lo : ∀ t : Fin 64, (Scalar.extui (Scalar.cmpi CmpIPredicate.sgt (BitVec.ofNat 32 t.val) 0#32) : BitVec 32).toInt
    = if t.val = 0 then 0 else 1 := by decide +kernel

/-- The flag of the row after: down at the last point. -/
theorem flag_hi : ∀ t : Fin 64, (Scalar.extui (Scalar.cmpi CmpIPredicate.slt (BitVec.ofNat 32 t.val) 63#32) : BitVec 32).toInt
    = if t.val = 63 then 0 else 1 := by decide +kernel

end Cert.FfnIdeal.Hand

end
-- ==== Proof.FfnRef.lean ====
module

public import proofs.«01_k».proof.Proof.FfnMath
public import Idealize.ShloMosaic.Lib.Pipeline.ValueKit
public import Idealize.ShloMosaic.Lib.Pointwise

@[expose] public section

set_option maxRecDepth 16384

noncomputable section

namespace Cert.FfnRef

open Idealize.ShloMosaic Idealize.ShloMosaic.TcCoe Idealize.SL.Sem
open Idealize.ShloMosaic.Pipeline (Dat)
open Cert.FfnRefIdeal.Read Cert.FfnMath

variable (x0 : Vec Ideal Cert.FfnRefIdeal.S2048x16x1024 .f32) (x1 : Vec Ideal Cert.FfnRefIdeal.S1x1024 .f32)
  (x2 x3 x4 : Vec Ideal Cert.FfnRefIdeal.S16x1024 .f32) (x5 : Vec Ideal Cert.FfnRefIdeal.S1024 .f32)
  (x6 : Vec Ideal Cert.FfnRefIdeal.S1x1024x5632 .f32) (x7 : Vec Ideal Cert.FfnRefIdeal.S1x3x5632 .f32)
  (x8 : Vec Ideal Cert.FfnRefIdeal.S1x5632 .f32) (x9 : Vec Ideal Cert.FfnRefIdeal.S1x2816x1024 .f32)

set_option maxHeartbeats 1600000 in
/-- The mean square of a token's features, through the reciprocal root. -/
theorem v12_eq (b : Fin 16) (p : Fin 2048) :
    val_main_v12 x0 (ix3 b p 0) = rms fun d => x0 (ix3 p b d) := by
  pointwise [Cert.FfnRefIdeal.Read.val_main_v5, Cert.FfnRefIdeal.Read.val_main_cst, Cert.FfnRefIdeal.Read.val_main_v6, Cert.FfnRefIdeal.Read.val_main_v7, Cert.FfnRefIdeal.Read.val_main_cst_0, Cert.FfnRefIdeal.Read.val_main_v8, Cert.FfnRefIdeal.Read.val_main_v9, Cert.FfnRefIdeal.Read.val_main_cst_1, Cert.FfnRefIdeal.Read.val_main_v10, Cert.FfnRefIdeal.Read.val_main_v11, Cert.FfnRefIdeal.Read.val_main_v12, Cert.FfnRefIdeal.Read.val_main_v0, rms]

set_option maxHeartbeats 1600000 in
/-- A token's features normalized and modulated. -/
theorem v23_eq (b : Fin 16) (p : Fin 2048) (j : Fin 1024) :
    val_main_v23 x0 x1 x2 x3 (ix3 b p j)
      = mrow (fun d => x0 (ix3 p b d)) (fun d => x1 (ix2 0 d)) (fun d => x2 (ix2 b d)) (fun d => x3 (ix2 b d)) j := by
  have h := v12_eq x0 b p
  pointwise [Cert.FfnRefIdeal.Read.val_main_v0, Cert.FfnRefIdeal.Read.val_main_v1, Cert.FfnRefIdeal.Read.val_main_v2, Cert.FfnRefIdeal.Read.val_main_v3, Cert.FfnRefIdeal.Read.val_main_v4, Cert.FfnRefIdeal.Read.val_main_v13, Cert.FfnRefIdeal.Read.val_main_v14, Cert.FfnRefIdeal.Read.val_main_v15, Cert.FfnRefIdeal.Read.val_main_v16, Cert.FfnRefIdeal.Read.val_main_v17, Cert.FfnRefIdeal.Read.val_main_cst_2, Cert.FfnRefIdeal.Read.val_main_v18, Cert.FfnRefIdeal.Read.val_main_v19, Cert.FfnRefIdeal.Read.val_main_v20, Cert.FfnRefIdeal.Read.val_main_v21, Cert.FfnRefIdeal.Read.val_main_v22, Cert.FfnRefIdeal.Read.val_main_v23, mrow, nrm]
  rw [h]

set_option maxHeartbeats 1600000 in
/-- The up projection of a token. -/
theorem v25_eq (b : Fin 16) (p : Fin 2048) (e : Fin 5632) :
    val_main_v25 x0 x1 x2 x3 x6 (ix3 b p e)
      = ∑ j : Fin 1024, val_main_v23 x0 x1 x2 x3 (ix3 b p j) * x6 (ix3 0 j e) := by
  pointwise [Cert.FfnRefIdeal.Read.val_main_v24, Cert.FfnRefIdeal.Read.val_main_v25]

/-- The up projection, padded by a row of zeros on either side. -/
theorem v28_eq (b : Fin 16) (p : Fin 2050) (e : Fin 5632) :
    val_main_v28 x0 x1 x2 x3 x6 (ix3 b p e) = up x0 x1 x2 x3 x6 p b e := by
  pointwise [Cert.FfnRefIdeal.Read.val_main_v28, Cert.FfnRefIdeal.Read.val_main_call0_v0, Cert.FfnRefIdeal.Read.val_main_c]
  unfold up
  by_cases h : 1 ≤ p.val ∧ p.val - 1 < 2048
  · rw [dif_pos h, v25_eq]
    refine Finset.sum_congr rfl fun j _ => ?_
    rw [v23_eq, hid, dif_pos h]
  · rw [dif_neg h]
    simp only [hid, dif_neg h, zero_mul, Finset.sum_const_zero]
    show (((0#32 : BitVec 32).toInt : ℝ) : EReal) = 0
    simp

set_option maxHeartbeats 1600000 in
/-- The convolution along the sequence. -/
theorem v51_eq (b : Fin 16) (p : Fin 2048) (e : Fin 5632) :
    val_main_v51 x0 x1 x2 x3 x6 x7 x8 (ix3 b p e) = conv x0 x1 x2 x3 x6 x7 x8 p b e := by
  have h0 := v28_eq x0 x1 x2 x3 x6 b ⟨p.val, by omega⟩ e
  have h1 := v28_eq x0 x1 x2 x3 x6 b ⟨1 + p.val, by omega⟩ e
  have h2 := v28_eq x0 x1 x2 x3 x6 b ⟨2 + p.val, by omega⟩ e
  pointwise [Cert.FfnRefIdeal.Read.val_main_v29, Cert.FfnRefIdeal.Read.val_main_v30, Cert.FfnRefIdeal.Read.val_main_v31, Cert.FfnRefIdeal.Read.val_main_v32, Cert.FfnRefIdeal.Read.val_main_v33, Cert.FfnRefIdeal.Read.val_main_v34, Cert.FfnRefIdeal.Read.val_main_v35, Cert.FfnRefIdeal.Read.val_main_v36, Cert.FfnRefIdeal.Read.val_main_v37, Cert.FfnRefIdeal.Read.val_main_v38, Cert.FfnRefIdeal.Read.val_main_v39, Cert.FfnRefIdeal.Read.val_main_v40, Cert.FfnRefIdeal.Read.val_main_v41, Cert.FfnRefIdeal.Read.val_main_v42, Cert.FfnRefIdeal.Read.val_main_v43, Cert.FfnRefIdeal.Read.val_main_v44, Cert.FfnRefIdeal.Read.val_main_v45, Cert.FfnRefIdeal.Read.val_main_v46, Cert.FfnRefIdeal.Read.val_main_v47, Cert.FfnRefIdeal.Read.val_main_v48, Cert.FfnRefIdeal.Read.val_main_v49, Cert.FfnRefIdeal.Read.val_main_v50, Cert.FfnRefIdeal.Read.val_main_v51, Cert.FfnRefIdeal.Read.val_main_v26, Cert.FfnRefIdeal.Read.val_main_v27, conv, cv]
  rw [h0, h1, h2]

set_option maxHeartbeats 1600000 in
/-- The gate of an element. -/
theorem v54_eq (b : Fin 16) (p : Fin 2048) (f : Fin 2816) :
    val_main_v54 x0 x1 x2 x3 x6 x7 x8 (ix3 b p f)
      = val_main_v53 x0 x1 x2 x3 x6 x7 x8 (ix3 b p f) * Ideal.logistic (val_main_v53 x0 x1 x2 x3 x6 x7 x8 (ix3 b p f)) := by
  rw [val_main_v54_apply, val_main_call1_v5_apply, val_main_call1_v4_apply, val_main_call1_v3_apply, val_main_call1_v2_apply, val_main_call1_v1_apply, val_main_call1_v0_apply, val_main_call1_cst_apply, val_main_call1_cst_0_apply]
  generalize val_main_v53 x0 x1 x2 x3 x6 x7 x8 (ix3 b p f) = s
  show s * Ideal.div (Ideal.ofBits FTy.f32 1065353216#32) (Ideal.ofBits FTy.f32 1065353216#32 + Ideal.exp (-s)) = _
  rw [one_bits]
  rfl

set_option maxHeartbeats 1600000 in
/-- The gated element. -/
theorem v55_eq (b : Fin 16) (p : Fin 2048) (f : Fin 2816) :
    val_main_v55 x0 x1 x2 x3 x6 x7 x8 (ix3 b p f) = gated x0 x1 x2 x3 x6 x7 x8 p b f := by
  have h : val_main_v53 x0 x1 x2 x3 x6 x7 x8 (ix3 b p f) = conv x0 x1 x2 x3 x6 x7 x8 p b ⟨2816 + f.val, by omega⟩ := by
    rw [← v51_eq]
    pointwise [Cert.FfnRefIdeal.Read.val_main_v53]
  have h' : val_main_v52 x0 x1 x2 x3 x6 x7 x8 (ix3 b p f) = conv x0 x1 x2 x3 x6 x7 x8 p b ⟨f.val, by omega⟩ := by
    rw [← v51_eq]
    pointwise [Cert.FfnRefIdeal.Read.val_main_v52]
  rw [val_main_v55_apply, v54_eq, h, h']
  rfl

set_option maxHeartbeats 1600000 in
/-- The down projection. -/
theorem v57_eq (b : Fin 16) (p : Fin 2048) (d : Fin 1024) :
    val_main_v57 x0 x1 x2 x3 x6 x7 x8 x9 (ix3 b p d) = ∑ f : Fin 2816, val_main_v55 x0 x1 x2 x3 x6 x7 x8 (ix3 b p f) * x9 (ix3 0 f d) := by
  pointwise [Cert.FfnRefIdeal.Read.val_main_v56, Cert.FfnRefIdeal.Read.val_main_v57]

set_option maxHeartbeats 1600000 in
/-- The residual sum. -/
theorem v60_eq (b : Fin 16) (p : Fin 2048) (d : Fin 1024) :
    val_main_v60 x0 x1 x2 x3 x4 x6 x7 x8 x9 (ix3 b p d) = resid x0 x1 x2 x3 x4 x6 x7 x8 x9 p b d := by
  have h : val_main_v57 x0 x1 x2 x3 x6 x7 x8 x9 (ix3 b p d) = ∑ f : Fin 2816, gated x0 x1 x2 x3 x6 x7 x8 p b f * x9 (ix3 0 f d) := by
    rw [v57_eq]
    exact Finset.sum_congr rfl fun f _ => by rw [v55_eq]
  unfold resid
  rw [← h]
  pointwise [Cert.FfnRefIdeal.Read.val_main_v58, Cert.FfnRefIdeal.Read.val_main_v59, Cert.FfnRefIdeal.Read.val_main_v60, Cert.FfnRefIdeal.Read.val_main_v0, Cert.FfnRefIdeal.Read.val_main_v3]

set_option maxHeartbeats 1600000 in
/-- The mean square of the residual sum, through the reciprocal root. -/
theorem v68_eq (b : Fin 16) (p : Fin 2048) :
    val_main_v68 x0 x1 x2 x3 x4 x6 x7 x8 x9 (ix3 b p 0) = rms fun d => val_main_v60 x0 x1 x2 x3 x4 x6 x7 x8 x9 (ix3 b p d) := by
  pointwise [Cert.FfnRefIdeal.Read.val_main_v61, Cert.FfnRefIdeal.Read.val_main_cst_3, Cert.FfnRefIdeal.Read.val_main_v62, Cert.FfnRefIdeal.Read.val_main_v63, Cert.FfnRefIdeal.Read.val_main_cst_4, Cert.FfnRefIdeal.Read.val_main_v64, Cert.FfnRefIdeal.Read.val_main_v65, Cert.FfnRefIdeal.Read.val_main_cst_5, Cert.FfnRefIdeal.Read.val_main_v66, Cert.FfnRefIdeal.Read.val_main_v67, Cert.FfnRefIdeal.Read.val_main_v68, rms]

set_option maxHeartbeats 1600000 in
/-- The reference's result at a point. -/
theorem v74_eq (p : Fin 2048) (b : Fin 16) (d : Fin 1024) :
    val_main_v74 x0 x1 x2 x3 x4 x5 x6 x7 x8 x9 (ix3 p b d)
      = nrm (fun d => resid x0 x1 x2 x3 x4 x6 x7 x8 x9 p b d) (fun d => x5 (ix1 d)) d := by
  have h := v68_eq x0 x1 x2 x3 x4 x6 x7 x8 x9 b p
  simp only [v60_eq] at h
  have h' := v60_eq x0 x1 x2 x3 x4 x6 x7 x8 x9 b p d
  pointwise [Cert.FfnRefIdeal.Read.val_main_v69, Cert.FfnRefIdeal.Read.val_main_v70, Cert.FfnRefIdeal.Read.val_main_v71, Cert.FfnRefIdeal.Read.val_main_v72, Cert.FfnRefIdeal.Read.val_main_v73, Cert.FfnRefIdeal.Read.val_main_v74, nrm]
  rw [h, h']

end Cert.FfnRef

end
-- ==== Proof.FfnLoop.lean ====
module

public import Idealize.ShloMosaic.Lib.WritesUnit
public import proofs.«01_k».proof.Proof.Gen.FfnIdeal.Value
public import proofs.«01_k».proof.Proof.FfnHost
public import proofs.«01_k».proof.Proof.FfnKer
public import proofs.«01_k».proof.Proof.FfnRef
public import Idealize.ShloMosaic.Lib.Pipeline.ValueKit
public import Idealize.ShloMosaic.Lib.Pointwise

@[expose] public section

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen Cert.FfnMath

section
variable (c : Dev nD) (t : Fin cfg0.N) (v5 : Ideal .f32) (v10 : Vec Ideal S32x16x1024 .f32) (v81 : FVec Ideal S1x16x1024 .f32)
  (v88 : Vec Ideal S34x16x1024 .bf16) (x8 : Vec Ideal S11x1024x512 .bf16) (x9 : Vec Ideal S11x3x512 .f32)
  (x10 : Vec Ideal S11x1x512 .f32) (x11 : Vec Ideal S11x256x1024 .bf16)

/-- The accumulator after one more chunk. -/
def step (k : Fin 11) (acc : Vec Ideal S512x1024 .f32) : Vec Ideal S512x1024 .f32 :=
  k0_pay10 (k0_pay1 (k0_pay8 v88) (fun i => x8 (ix3 k (i 1) (i 2))) (fun i => x9 (ix3 k (i 1) (i 2))) (fun i => x10 (ix3 k (i 1) (i 2))) acc
    (fun i => x11 (ix3 k (i 1) (i 2))))

/-- The accumulator after the first chunks. -/
def accum : ℕ → Vec Ideal S512x1024 .f32
  | 0 => k0_pay9 (F := Ideal)
  | k + 1 => if h : k < 11 then step v88 x8 x9 x10 x11 ⟨k, h⟩ (accum k) else accum k

/-- One chunk's plane of an array of chunks. -/
theorem plane {e : EltTy} {B C : ℕ} (x : Vec Ideal ⟨3, ![11, B, C]⟩ e) (off : Fin 3 → ℕ) (k : Fin 11) (ho : off = ![k.val, 0, 0])
    (inb) : View.ld (S := (⟨3, ![11, B, C]⟩ : Shape)) x (Rect.unit off ![1, B, C] inb) = fun i => x (ix3 k (i 1) (i 2)) := by
  subst ho
  funext i
  refine View.ld_unit_apply_of x _ _ _ i _ fun a => ?_
  fin_cases a
  · show k.val = k.val + (i 0).val
    have : (i 0).val < 1 := (i 0).isLt
    omega
  · show (i 1).val = 0 + (i 1).val
    omega
  · show (i 2).val = 0 + (i 2).val
    omega

set_option maxHeartbeats 1600000 in
/-- The write of one trip of the loop. -/
theorem trip (k : Fin k0_t1_loop.trips) (f) :
    tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) v5 v10 v81 v88 ((hs0_8 t).unread x8) ((hs0_9 t).unread x9) ((hs0_10 t).unread x10) ((hs0_11 t).unread x11) k f
      = [⟨Rect.unit ![0, 0] ![512, 1024] Gen.inb_S512x1024_S512x1024_0_0,
          step v88 x8 x9 x10 x11 ⟨k.val, lt_of_lt_of_le k.isLt k0_t1_abs.2.1⟩ (View.read (Elt Ideal) (View.whole cc0_scratch1) f)⟩] := by
  unfold tripL_k0_t1 trip_k0_t1
  dsimp only
  frame_out
  rw [plane x8 _ ⟨k.val, lt_of_lt_of_le k.isLt k0_t1_abs.2.1⟩ (k0_off1_eq k), plane x9 _ ⟨k.val, lt_of_lt_of_le k.isLt k0_t1_abs.2.1⟩ (k0_off2_eq k),
    plane x10 _ ⟨k.val, lt_of_lt_of_le k.isLt k0_t1_abs.2.1⟩ (k0_off3_eq k), plane x11 _ ⟨k.val, lt_of_lt_of_le k.isLt k0_t1_abs.2.1⟩ (k0_off4_eq k)]
  rfl

set_option maxHeartbeats 1600000 in
/-- What the accumulator reads as after the first trips, over any contents that read as the start. -/
theorem loop (G) (hG : View.read (Elt Ideal) (View.whole cc0_scratch1) G = k0_pay9 (F := Ideal)) (k : ℕ) (hk : k ≤ k0_t1_loop.trips) :
    View.read (Elt Ideal) (View.whole cc0_scratch1) ((View.whole cc0_scratch1).writes (Elt Ideal) G
      (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) v5 v10 v81 v88 ((hs0_8 t).unread x8) ((hs0_9 t).unread x9) ((hs0_10 t).unread x10) ((hs0_11 t).unread x11) G k)) = accum v88 x8 x9 x10 x11 k := by
  induction k with
  | zero => exact hG
  | succ k ih =>
    have ih := ih (by omega)
    have hs := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) v5 v10 v81 v88 ((hs0_8 t).unread x8) ((hs0_9 t).unread x9) ((hs0_10 t).unread x10) ((hs0_11 t).unread x11) G ⟨k, by omega⟩
    rw [trip] at hs
    refine (congrArg (fun L => View.read (Elt Ideal) (View.whole cc0_scratch1) ((View.whole cc0_scratch1).writes (Elt Ideal) G L)) hs).trans ?_
    funext y
    refine (View.read_writes_cons_unit_of_mem (View.whole cc0_scratch1) G Gen.inb_S512x1024_S512x1024_0_0 _ _ y y rfl fun a => ?_).trans ?_
    · fin_cases a
      · exact (Nat.zero_add _).symm
      · exact (Nat.zero_add _).symm
    · rw [accum, dif_pos (lt_of_lt_of_le (show k < k0_t1_loop.trips by omega) k0_t1_abs.2.1)]
      exact congrFun (congrArg (step v88 x8 x9 x10 x11 _) ih) y

/-- The write that clears the accumulator. -/
abbrev clear : View.Piece (Elt Ideal) S512x1024 .f32 :=
  ⟨Rect.unit ![0, 0] ![512, 1024] Gen.inb_S512x1024_S512x1024_0_0, k0_pay9 (F := Ideal)⟩

set_option maxHeartbeats 1600000 in
/-- What the accumulator reads as after the loop. -/
theorem loaded (n : ℕ) (hn : n = 11) :
    (View.whole cc0_scratch1).readCov (Val := Elt Ideal) (pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) v5 v10 v81 v88 ((hs0_8 t).unread x8) ((hs0_9 t).unread x9) ((hs0_10 t).unread x10) ((hs0_11 t).unread x11) ((View.whole cc0_scratch1).writes (Elt Ideal) (View.whole cc0_scratch1).junk [clear]) n ++ [clear])
      (Rect.unit ![0, 0] ![512, 1024] Gen.inb_S512x1024_S512x1024_0_0).toLoadRect = accum v88 x8 x9 x10 x11 11 := by
  subst hn
  funext j
  show View.read (Elt Ideal) (View.whole cc0_scratch1) ((View.whole cc0_scratch1).writes (Elt Ideal) (View.whole cc0_scratch1).junk (_ ++ [clear]))
    ((Rect.unit ![0, 0] ![512, 1024] Gen.inb_S512x1024_S512x1024_0_0).toLoadRect.idx j) = _
  rw [View.writes_append, loop]
  · congr 1
    funext a
    fin_cases a
    · exact Fin.ext (by show 0 + 1 * (j 0).val = (j 0).val; omega)
    · exact Fin.ext (by show 0 + 1 * (j 1).val = (j 1).val; omega)
  · funext y
    refine View.read_writes_cons_unit_of_mem (View.whole cc0_scratch1) _ Gen.inb_S512x1024_S512x1024_0_0 _ _ y y rfl fun a => ?_
    fin_cases a
    · exact (Nat.zero_add _).symm
    · exact (Nat.zero_add _).symm
  · decide
end

end Cert.FfnIdeal.Hand

end
-- ==== Proof.Ffn.lean ====
module

public import proofs.«01_k».proof.Proof.FfnLoop
public import Idealize.ShloMosaic.Lib.Pipeline.ValueKit
public import Idealize.ShloMosaic.Lib.Pointwise

@[expose] public section

set_option maxRecDepth 16384

noncomputable section

namespace Cert.FfnIdeal.Hand

open Idealize.ShloMosaic Idealize.ShloMosaic.TcCoe Idealize.SL.Sem
open Idealize.ShloMosaic.Pipeline (Dat)
open Cert.FfnIdeal Cert.FfnIdeal.Gen Cert.FfnMath

section
variable (H : Vec Ideal S34x16x1024 .bf16) (w8 : Vec Ideal S11x1024x512 .bf16) (w9 : Vec Ideal S11x3x512 .f32)
  (w10 : Vec Ideal S11x1x512 .f32) (w11 : Vec Ideal S11x256x1024 .bf16)

/-- One chunk's term of the accumulator at an element. -/
def chunk (s : Fin 32) (b : Fin 16) (d : Fin 1024) (k : Fin 11) : EReal :=
  ∑ f : Fin 256, act
    (kconv H (fun i => w8 (ix3 k (i 1) (i 2))) (fun i => w9 (ix3 k (i 1) (i 2))) (fun i => w10 (ix3 k (i 1) (i 2))) s b ⟨256 + f.val, by omega⟩)
    (kconv H (fun i => w8 (ix3 k (i 1) (i 2))) (fun i => w9 (ix3 k (i 1) (i 2))) (fun i => w10 (ix3 k (i 1) (i 2))) s b ⟨f.val, by omega⟩)
    * w11 (ix3 k f d)

/-- The accumulator at an element is the sum of the chunks' terms so far. -/
theorem accum_eq (s : Fin 32) (b : Fin 16) (d : Fin 1024) (n : ℕ) (hn : n ≤ 11) :
    accum H w8 w9 w10 w11 n (ix2 ⟨s.val * 16 + b.val, by omega⟩ d)
      = ∑ k ∈ Finset.range n, if h : k < 11 then chunk H w8 w9 w10 w11 s b d ⟨k, h⟩ else 0 := by
  induction n with
  | zero =>
    rw [Finset.sum_range_zero, accum]
    exact pay9_eq _
  | succ n ih =>
    rw [Finset.sum_range_succ, dif_pos (show n < 11 by omega), accum, dif_pos (show n < 11 by omega), step, pay1_eq, ih (by omega)]
    rfl

/-- The accumulator in the end is the reference's down projection, of what it is computed from. -/
theorem down (X0 : Vec Ideal Cert.FfnRefIdeal.S2048x16x1024 .f32) (X1 : Vec Ideal Cert.FfnRefIdeal.S1x1024 .f32)
    (X2 X3 : Vec Ideal Cert.FfnRefIdeal.S16x1024 .f32) (X6 : Vec Ideal Cert.FfnRefIdeal.S1x1024x5632 .f32)
    (X7 : Vec Ideal Cert.FfnRefIdeal.S1x3x5632 .f32) (X8 : Vec Ideal Cert.FfnRefIdeal.S1x5632 .f32)
    (X9 : Vec Ideal Cert.FfnRefIdeal.S1x2816x1024 .f32) (t : Fin 64)
    (hH : ∀ (s : Fin 34) (b : Fin 16) (j : Fin 1024), H (ix3 s b j) = hid X0 X1 X2 X3 ⟨t.val * 32 + s.val, by omega⟩ b j)
    (h8v : ∀ (k : Fin 11) (j : Fin 1024) (f : Fin 256), w8 (ix3 k j ⟨f.val, by omega⟩) = X6 (ix3 0 j ⟨k.val * 256 + f.val, by omega⟩))
    (h8g : ∀ (k : Fin 11) (j : Fin 1024) (f : Fin 256), w8 (ix3 k j ⟨256 + f.val, by omega⟩) = X6 (ix3 0 j ⟨2816 + (k.val * 256 + f.val), by omega⟩))
    (h9v : ∀ (k : Fin 11) (j : Fin 3) (f : Fin 256), w9 (ix3 k j ⟨f.val, by omega⟩) = X7 (ix3 0 j ⟨k.val * 256 + f.val, by omega⟩))
    (h9g : ∀ (k : Fin 11) (j : Fin 3) (f : Fin 256), w9 (ix3 k j ⟨256 + f.val, by omega⟩) = X7 (ix3 0 j ⟨2816 + (k.val * 256 + f.val), by omega⟩))
    (h10v : ∀ (k : Fin 11) (f : Fin 256), w10 (ix3 k 0 ⟨f.val, by omega⟩) = X8 (ix2 0 ⟨k.val * 256 + f.val, by omega⟩))
    (h10g : ∀ (k : Fin 11) (f : Fin 256), w10 (ix3 k 0 ⟨256 + f.val, by omega⟩) = X8 (ix2 0 ⟨2816 + (k.val * 256 + f.val), by omega⟩))
    (h11 : ∀ (k : Fin 11) (f : Fin 256) (d : Fin 1024), w11 (ix3 k f d) = X9 (ix3 0 ⟨k.val * 256 + f.val, by omega⟩ d))
    (s : Fin 32) (b : Fin 16) (d : Fin 1024) :
    accum H w8 w9 w10 w11 11 (ix2 ⟨s.val * 16 + b.val, by omega⟩ d)
      = ∑ f : Fin 2816, gated X0 X1 X2 X3 X6 X7 X8 ⟨t.val * 32 + s.val, by omega⟩ b f * X9 (ix3 0 f d) := by
  rw [accum_eq _ _ _ _ _ _ _ _ _ le_rfl, Finset.sum_range, Fin.sum_univ_tiles 11 256 rfl]
  refine Finset.sum_congr rfl fun k _ => ?_
  rw [dif_pos k.isLt, chunk]
  refine Finset.sum_congr rfl fun f _ => ?_
  have hu : ∀ (r : Fin 34) (p : Fin 2050) (_ : p.val = t.val * 32 + r.val) (e : Fin 512) (e' : Fin 5632)
      (_ : ∀ j, w8 (ix3 k j e) = X6 (ix3 0 j e')), kup H (fun i => w8 (ix3 k (i 1) (i 2))) r b e = up X0 X1 X2 X3 X6 p b e' := by
    intro r p hp e e' he
    have hp' : p = ⟨t.val * 32 + r.val, by omega⟩ := Fin.ext hp
    unfold kup up
    refine Finset.sum_congr rfl fun j _ => ?_
    rw [hH, hp', ← he]
    rfl
  have hc : ∀ (e : Fin 512) (e' : Fin 5632) (_ : ∀ j, w8 (ix3 k j e) = X6 (ix3 0 j e')) (_ : ∀ j, w9 (ix3 k j e) = X7 (ix3 0 j e'))
      (_ : w10 (ix3 k 0 e) = X8 (ix2 0 e')),
      kconv H (fun i => w8 (ix3 k (i 1) (i 2))) (fun i => w9 (ix3 k (i 1) (i 2))) (fun i => w10 (ix3 k (i 1) (i 2))) s b e
        = conv X0 X1 X2 X3 X6 X7 X8 ⟨t.val * 32 + s.val, by omega⟩ b e' := by
    intro e e' k8 k9 k10
    unfold kconv conv
    rw [hu ⟨s.val, by omega⟩ ⟨t.val * 32 + s.val, by omega⟩ rfl e e' k8,
      hu ⟨1 + s.val, by omega⟩ ⟨1 + (t.val * 32 + s.val), by omega⟩ (by show 1 + (t.val * 32 + s.val) = t.val * 32 + (1 + s.val); omega) e e' k8,
      hu ⟨2 + s.val, by omega⟩ ⟨2 + (t.val * 32 + s.val), by omega⟩ (by show 2 + (t.val * 32 + s.val) = t.val * 32 + (2 + s.val); omega) e e' k8,
      ← k9 0, ← k9 1, ← k9 2, ← k10]
    rfl
  rw [hc _ _ (fun j => h8g k j f) (fun j => h9g k j f) (h10g k f), hc _ _ (fun j => h8v k j f) (fun j => h9v k j f) (h10v k f), h11]
  rfl
end

variable (m : (ℓ : Loc nD τ sig) → Buf (Elt Ideal) ℓ)

/-- The rows a point holds, as the writes that left them. -/
abbrev rows (c : Dev nD) (t : Fin cfg0.N) : List (View.Piece (Elt Ideal) S34x16x1024 .bf16) :=
  [⟨Rect.unit ![33, 0, 0] ![1, 16, 1024] Gen.inb_S34x16x1024_S1x16x1024_33_0_0, k0_pay7 (k0_pay2 (grid0.coords t)) (k0_pay6 (k0_pay3 (iblk m c 3 t)) (iblk m c 4 t) (iblk m c 5 t) (iblk m c 2 t))⟩,
    ⟨Rect.unit ![1, 0, 0] ![32, 16, 1024] Gen.inb_S34x16x1024_S32x16x1024_1_0_0, k0_pay5 (k0_pay3 (iblk m c 3 t)) (iblk m c 4 t) (iblk m c 5 t) (iblk m c 1 t)⟩,
    ⟨Rect.unit ![0, 0, 0] ![1, 16, 1024] Gen.inb_S34x16x1024_S1x16x1024_0_0_0, k0_pay4 (grid0.coords t) (iblk m c 3 t) (iblk m c 4 t) (iblk m c 5 t) (iblk m c 0 t)⟩]

/-- Two modulated rows are equal where the inputs agree. -/
theorem mrow_congr {x x' g g' sc sc' sh sh' : Fin 1024 → EReal} (hx : ∀ d, x d = x' d) (hg : ∀ d, g d = g' d) (hc : ∀ d, sc d = sc' d)
    (hs : ∀ d, sh d = sh' d) (j : Fin 1024) : mrow x g sc sh j = mrow x' g' sc' sh' j := by
  rw [funext hx, funext hg, funext hc, funext hs]

set_option maxHeartbeats 1600000 in
/-- The rows a point holds are the padded sequence's there. -/
theorem held (c : Dev nD) (t : Fin cfg0.N) (s : Fin 34) (b : Fin 16) (j : Fin 1024) (p : Fin 2050) (hp : p.val = t.val * 32 + s.val) :
    View.canon (rows m c t) (ix3 s b j) = hid (m ((c : Thread nD τ).loc main_arg0)) (m ((c : Thread nD τ).loc main_arg1)) (m ((c : Thread nD τ).loc main_arg2)) (m ((c : Thread nD τ).loc main_arg3)) p b j := by
  have ht : t.val < 64 := t.isLt
  have hcover : ∃ q ∈ rows m c t, ix3 s b j ∈ q.1.set := by
    by_cases h0 : s.val = 33
    · refine ⟨_, List.mem_cons_self, (Rect.mem_set_unit (inb := Gen.inb_S34x16x1024_S1x16x1024_33_0_0)).mpr fun a => ?_⟩
      fin_cases a
      · show 33 ≤ s.val ∧ s.val < 33 + 1
        omega
      · show 0 ≤ b.val ∧ b.val < 0 + 16
        omega
      · show 0 ≤ j.val ∧ j.val < 0 + 1024
        omega
    · by_cases h1 : s.val = 0
      · refine ⟨_, List.mem_cons_of_mem _ (List.mem_cons_of_mem _ List.mem_cons_self), (Rect.mem_set_unit (inb := Gen.inb_S34x16x1024_S1x16x1024_0_0_0)).mpr fun a => ?_⟩
        fin_cases a
        · show 0 ≤ s.val ∧ s.val < 0 + 1
          omega
        · show 0 ≤ b.val ∧ b.val < 0 + 16
          omega
        · show 0 ≤ j.val ∧ j.val < 0 + 1024
          omega
      · refine ⟨_, List.mem_cons_of_mem _ List.mem_cons_self, (Rect.mem_set_unit (inb := Gen.inb_S34x16x1024_S32x16x1024_1_0_0)).mpr fun a => ?_⟩
        fin_cases a
        · show 1 ≤ s.val ∧ s.val < 1 + 32
          omega
        · show 0 ≤ b.val ∧ b.val < 0 + 16
          omega
        · show 0 ≤ j.val ∧ j.val < 0 + 1024
          omega
  canon_tiles x h using hcover
  · have h0 : s.val = 33 + (x 0).val := h0
    have x0 : (x 0).val < 1 := x0_lt
    have hx : x = ix3 0 b j := by
      funext a
      fin_cases a
      · exact Fin.ext (by show (x 0).val = 0; omega)
      · exact Fin.ext h1.symm
      · exact Fin.ext h2.symm
    rw [hx, pay7_eq, coord, flag_hi ⟨t.val, ht⟩]
    unfold hid
    by_cases hl : t.val = 63
    · rw [if_pos hl, dif_neg (by omega)]
      simp
    · rw [if_neg hl, dif_pos (by omega)]
      simp only [Int.cast_one, EReal.coe_one, mul_one]
      exact mrow_congr (fun d => next m c t b d _ (by show p.val - 1 = _; omega)) (gain m c t) (scale m c t b) (shift m c t b) j
  · have h0 : s.val = 1 + (x 0).val := h0
    have x0 : (x 0).val < 32 := x0_lt
    have hx : x = ix3 (⟨(x 0).val, x0⟩ : Fin 32) b j := by
      funext a
      fin_cases a
      · rfl
      · exact Fin.ext h1.symm
      · exact Fin.ext h2.symm
    rw [hx, pay5_eq]
    unfold hid
    rw [dif_pos (by omega)]
    exact mrow_congr (fun d => here m c t ⟨(x 0).val, x0⟩ b d _ (by show p.val - 1 = t.val * 32 + (x 0).val; omega)) (gain m c t) (scale m c t b) (shift m c t b) j
  · have h0 : s.val = (x 0).val := h0
    have x0 : (x 0).val < 1 := x0_lt
    have hx : x = ix3 0 b j := by
      funext a
      fin_cases a
      · exact Fin.ext (by show (x 0).val = 0; omega)
      · exact Fin.ext h1.symm
      · exact Fin.ext h2.symm
    rw [hx, pay4_eq, coord, flag_lo ⟨t.val, ht⟩]
    unfold hid
    by_cases hl : t.val = 0
    · rw [if_pos hl, dif_neg (by omega)]
      simp
    · rw [if_neg hl, dif_pos (by omega)]
      simp only [Int.cast_one, EReal.coe_one, mul_one]
      exact mrow_congr (fun d => prev m c t b d _ (by show p.val - 1 = _; omega)) (gain m c t) (scale m c t b) (shift m c t b) j

/-- The rows, as the loop reads them. -/
abbrev buf (c : Dev nD) (t : Fin cfg0.N) : Vec Ideal S34x16x1024 .bf16 :=
  (View.whole cc0_scratch0).readCov (Val := Elt Ideal) (rows m c t) (Rect.unit (s := S34x16x1024) ![0, 0, 0] ![34, 16, 1024] Gen.inb_S34x16x1024_S34x16x1024_0_0_0).toLoadRect

/-- A load of all the rows reads what the writes left. -/
theorem all_rows (L : List (View.Piece (Elt Ideal) S34x16x1024 .bf16)) (s : Fin 34) (b : Fin 16) (j : Fin 1024) :
    ((View.whole cc0_scratch0).readCov (Val := Elt Ideal) L (Rect.unit (s := S34x16x1024) ![0, 0, 0] ![34, 16, 1024] Gen.inb_S34x16x1024_S34x16x1024_0_0_0).toLoadRect
      : Vec Ideal S34x16x1024 .bf16) (ix3 s b j) = View.canon L (ix3 s b j) := by
  rw [View.readCov_eq_canon']
  refine congrArg (View.canon L) ?_
  funext a
  fin_cases a
  · exact Fin.ext (by show 0 + 1 * s.val = s.val; omega)
  · exact Fin.ext (by show 0 + 1 * b.val = b.val; omega)
  · exact Fin.ext (by show 0 + 1 * j.val = j.val; omega)

/-- What the loop reads is the padded sequence. -/
theorem buf_eq (c : Dev nD) (t : Fin cfg0.N) (s : Fin 34) (b : Fin 16) (j : Fin 1024) (p : Fin 2050) (hp : p.val = t.val * 32 + s.val) :
    buf m c t (ix3 s b j) = hid (m ((c : Thread nD τ).loc main_arg0)) (m ((c : Thread nD τ).loc main_arg1)) (m ((c : Thread nD τ).loc main_arg2)) (m ((c : Thread nD τ).loc main_arg3)) p b j := by
  rw [← held m c t s b j p hp]
  exact all_rows (rows m c t) s b j

/-- The reference's result as a function of the kernel's arguments. -/
def REF (x0 : FVec Ideal S2048x16x1024 .f32) (x1 : FVec Ideal S1x1024 .f32) (x2 x3 x4 : FVec Ideal S16x1024 .f32) (x5 : FVec Ideal S1024 .f32)
    (x6 : FVec Ideal S1x1024x5632 .f32) (x7 : FVec Ideal S1x3x5632 .f32) (x8 : FVec Ideal S1x5632 .f32) (x9 : FVec Ideal S1x2816x1024 .f32) :
    FVec Ideal S2048x16x1024 .f32 :=
  Cert.FfnRefIdeal.Read.val_main_v74 (F := Ideal) x0 x1 x2 x3 x4 x5 x6 x7 x8 x9

set_option maxHeartbeats 1600000 in
/-- What a grid point stores at an element is the reference's result there. -/
theorem point (c : Dev nD) (t : Fin cfg0.N) (s : Fin 32) (b : Fin 16) (d : Fin 1024) (p : Fin 2048) (hp : p.val = t.val * 32 + s.val) :
    k0_pay11 (iblk m c 1 t) (iblk m c 6 t) (accum (buf m c t) (iblk m c 8 t) (iblk m c 9 t) (iblk m c 10 t) (iblk m c 11 t) 11) (iblk m c 7 t) (ix3 s b d)
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix3 p b d) := by
  have ht : t.val < 64 := t.isLt
  unfold REF
  rw [pay11_eq, Cert.FfnRef.v74_eq, funext (fgain m c t)]
  refine congrFun (congrFun (congrArg nrm (funext fun e => ?_)) _) _
  have hp' : p = ⟨t.val * 32 + s.val, by omega⟩ := Fin.ext hp
  rw [here m c t s b e p hp, gate2 m c t b e, down (buf m c t) (iblk m c 8 t) (iblk m c 9 t) (iblk m c 10 t) (iblk m c 11 t)
    (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) ⟨t.val, ht⟩ (fun s b j => buf_eq m c t s b j _ rfl) (wup_value m c t) (wup_gate m c t)
    (taps_value m c t) (taps_gate m c t) (bias_value m c t) (bias_gate m c t) (wdown m c t) s b e, hp']
  rfl

set_option maxHeartbeats 1600000 in
/-- The result array after the run is the reference's result. -/
theorem final (c : Dev nD) : (dats m 0 c).arrAt 12 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 12 _ (by decide +kernel) fun t _ y => ?_
  blk_simp
  rw [after0_12]; unfold outsAt0; frame_out
  rw [loaded c t _ _ _ _ (iblk m c 8 t) (iblk m c 9 t) (iblk m c 10 t) (iblk m c 11 t) _ (by decide)]
  refine (congrArg (fun i => k0_pay11 (iblk m c 1 t) (iblk m c 6 t) (accum (buf m c t) (iblk m c 8 t) (iblk m c 9 t) (iblk m c 10 t) (iblk m c 11 t) 11)
    (iblk m c 7 t) i) (show (y : S32x16x1024.Idx) = ix3 (y 0) (y 1) (y 2) from by funext a; fin_cases a <;> rfl)).trans ?_
  have ht : t.val < 64 := t.isLt
  have hy : (y 0).val < 32 := (y 0).isLt
  refine (point m c t (y 0) (y 1) (y 2) ⟨t.val * 32 + (y 0).val, by omega⟩ rfl).trans (congrArg (REF _ _ _ _ _ _ _ _ _ _) ?_)
  blk_ext [idx t]

end Cert.FfnIdeal.Hand

end
-- ==== Proof.InSbRef.lean ====
module

public import proofs.«01_k».proof.Proof.FfnMath
public import proofs.«01_k».proof.Proof.Gen.InSbRefIdeal.Read
public import Idealize.ShloMosaic.Lib.Pipeline.ValueKit
public import Idealize.ShloMosaic.Lib.Pointwise

@[expose] public section

set_option maxRecDepth 16384

noncomputable section

namespace Cert.InSbRef

open Idealize.ShloMosaic Idealize.ShloMosaic.TcCoe Idealize.SL.Sem
open Idealize.ShloMosaic.Pipeline (Dat)
open Cert.InSbRefIdeal Cert.InSbRefIdeal.Read Cert.FfnMath

variable (x0 : Vec Ideal Cert.InSbRefIdeal.S2048x16x1024 .f32) (x1 : Vec Ideal Cert.InSbRefIdeal.S1x1024 .f32)
  (x2 x3 : Vec Ideal Cert.InSbRefIdeal.S16x1024 .f32) (x4 : Vec Ideal Cert.InSbRefIdeal.S1x1024x7168 .f32)

/-- A token's features, normalized and modulated. -/
def feat (p : Fin 2048) (b : Fin 16) (j : Fin 1024) : EReal :=
  mrow (fun d => x0 (ix3 p b d)) (fun d => x1 (ix2 0 d)) (fun d => x2 (ix2 b d)) (fun d => x3 (ix2 b d)) j

/-- One column of the input projection. -/
def col (p : Fin 2048) (b : Fin 16) (e : Fin 7168) : EReal := ∑ j : Fin 1024, feat x0 x1 x2 x3 p b j * x4 (ix3 0 j e)

set_option maxHeartbeats 1600000 in
/-- The mean square of a token's features, through the reciprocal root. -/
theorem v8_eq (b : Fin 16) (p : Fin 2048) :
    val_main_v8 x0 (ix3 p b 0) = rms fun d => x0 (ix3 p b d) := by
  pointwise [Cert.InSbRefIdeal.Read.val_main_v1, Cert.InSbRefIdeal.Read.val_main_cst, Cert.InSbRefIdeal.Read.val_main_v2, Cert.InSbRefIdeal.Read.val_main_v3, Cert.InSbRefIdeal.Read.val_main_cst_0, Cert.InSbRefIdeal.Read.val_main_v4, Cert.InSbRefIdeal.Read.val_main_v5, Cert.InSbRefIdeal.Read.val_main_cst_1, Cert.InSbRefIdeal.Read.val_main_v6, Cert.InSbRefIdeal.Read.val_main_v7, Cert.InSbRefIdeal.Read.val_main_v8, rms]

set_option maxHeartbeats 1600000 in
/-- The normalized, modulated features. -/
theorem v21_eq (b : Fin 16) (p : Fin 2048) (j : Fin 1024) :
    val_main_v21 x0 x1 x2 x3 (ix3 p b j) = feat x0 x1 x2 x3 p b j := by
  have h := v8_eq x0 b p
  pointwise [Cert.InSbRefIdeal.Read.val_main_v0, Cert.InSbRefIdeal.Read.val_main_v9, Cert.InSbRefIdeal.Read.val_main_v10, Cert.InSbRefIdeal.Read.val_main_v11, Cert.InSbRefIdeal.Read.val_main_v12, Cert.InSbRefIdeal.Read.val_main_v13, Cert.InSbRefIdeal.Read.val_main_cst_2, Cert.InSbRefIdeal.Read.val_main_v14, Cert.InSbRefIdeal.Read.val_main_v15, Cert.InSbRefIdeal.Read.val_main_v16, Cert.InSbRefIdeal.Read.val_main_v17, Cert.InSbRefIdeal.Read.val_main_v18, Cert.InSbRefIdeal.Read.val_main_v19, Cert.InSbRefIdeal.Read.val_main_v20, Cert.InSbRefIdeal.Read.val_main_v21, feat, mrow, nrm]
  rw [h]

set_option maxHeartbeats 1600000 in
/-- The projection. -/
theorem v23_eq (b : Fin 16) (p : Fin 2048) (e : Fin 7168) :
    val_main_v23 x0 x1 x2 x3 x4 (ix3 p b e) = col x0 x1 x2 x3 x4 p b e := by
  have h := fun j => v21_eq x0 x1 x2 x3 b p j
  pointwise [Cert.InSbRefIdeal.Read.val_main_v22, Cert.InSbRefIdeal.Read.val_main_v23, col]
  refine Finset.sum_congr rfl fun j _ => ?_
  rw [h]

set_option maxHeartbeats 1600000 in
/-- The sigmoid of a gate column. -/
theorem v32_eq (b : Fin 16) (p : Fin 2048) (e : Fin 2048) :
    val_main_v32 x0 x1 x2 x3 x4 (ix3 p b e) = Ideal.logistic (col x0 x1 x2 x3 x4 p b ⟨5120 + e.val, by omega⟩) := by
  have h := v23_eq x0 x1 x2 x3 x4 b p ⟨5120 + e.val, by omega⟩
  pointwise [Cert.InSbRefIdeal.Read.val_main_v26, Cert.InSbRefIdeal.Read.val_main_v27, Cert.InSbRefIdeal.Read.val_main_v28, Cert.InSbRefIdeal.Read.val_main_cst_3, Cert.InSbRefIdeal.Read.val_main_v29, Cert.InSbRefIdeal.Read.val_main_v30, Cert.InSbRefIdeal.Read.val_main_cst_4, Cert.InSbRefIdeal.Read.val_main_v31, Cert.InSbRefIdeal.Read.val_main_v32]
  rw [h]
  rfl

set_option maxHeartbeats 1600000 in
/-- The result at a column of the recurrent branch. -/
theorem v35_lo (b : Fin 16) (p : Fin 2048) (e : Fin 2048) :
    val_main_v35 x0 x1 x2 x3 x4 (ix2 ⟨p.val * 16 + b.val, by omega⟩ ⟨e.val, by omega⟩) = col x0 x1 x2 x3 x4 p b ⟨e.val, by omega⟩ := by
  have h := v23_eq x0 x1 x2 x3 x4 b p ⟨e.val, by omega⟩
  pointwise [Cert.InSbRefIdeal.Read.val_main_v24, Cert.InSbRefIdeal.Read.val_main_v33, Cert.InSbRefIdeal.Read.val_main_v34, Cert.InSbRefIdeal.Read.val_main_v35]
  exact h

set_option maxHeartbeats 1600000 in
/-- The result at a gate column. -/
theorem v35_hi (b : Fin 16) (p : Fin 2048) (e : Fin 2048) :
    val_main_v35 x0 x1 x2 x3 x4 (ix2 ⟨p.val * 16 + b.val, by omega⟩ ⟨2048 + e.val, by omega⟩)
      = Ideal.logistic (col x0 x1 x2 x3 x4 p b ⟨5120 + e.val, by omega⟩) := by
  have h := v32_eq x0 x1 x2 x3 x4 b p e
  pointwise [Cert.InSbRefIdeal.Read.val_main_v33, Cert.InSbRefIdeal.Read.val_main_v34, Cert.InSbRefIdeal.Read.val_main_v35]
  exact h

end Cert.InSbRef

end
-- ==== Proof.InSbKer.lean ====
module

public import proofs.«01_k».proof.Proof.FfnMath
public import proofs.«01_k».proof.Proof.Gen.InSbIdeal.Frame
public import Idealize.ShloMosaic.Lib.Pipeline.ValueKit
public import Idealize.ShloMosaic.Lib.Pointwise

@[expose] public section

set_option maxRecDepth 16384

noncomputable section

namespace Cert.InSbIdeal.Hand

open Idealize.ShloMosaic Idealize.ShloMosaic.TcCoe Idealize.SL.Sem
open Idealize.ShloMosaic.Pipeline (Dat)
open Cert.InSbIdeal Cert.InSbIdeal.Gen Cert.FfnMath

set_option maxHeartbeats 1600000 in
/-- The rows of a tile, normalized and modulated. -/
theorem pay1_eq (x : Vec Ideal S64x16x1024 .f32) (g : Vec Ideal S1x1024 .f32) (sc sh : Vec Ideal S16x1024 .f32) (s : Fin 64) (b : Fin 16) (j : Fin 1024) :
    k0_pay1 x g sc sh (ix2 ⟨s.val * 16 + b.val, by omega⟩ j)
      = mrow (fun d => x (ix3 s b d)) (fun d => g (ix2 0 d)) (fun d => sc (ix2 b d)) (fun d => sh (ix2 b d)) j := by
  pointwise [k0_pay1, mrow, nrm, rms]

/-- A column tile of the recurrent branch. -/
theorem pay3_eq (h w : Vec Ideal S1024x1024 .bf16) (r e : Fin 1024) :
    k0_pay3 h w (ix2 r e) = ∑ j : Fin 1024, h (ix2 r j) * w (ix2 j e) := by
  pointwise [k0_pay3, k0_pay2]

/-- A column tile of the gates. -/
theorem pay4_eq (h w : Vec Ideal S1024x1024 .bf16) (r e : Fin 1024) :
    k0_pay4 h w (ix2 r e) = Ideal.logistic (∑ j : Fin 1024, h (ix2 r j) * w (ix2 j e)) := by
  pointwise [k0_pay4, k0_pay2]

variable (m : (ℓ : Loc nD τ sig) → Buf (Elt Ideal) ℓ)

/-- Each window's block index as a closed form of the grid point. -/
theorem idx : ∀ t : Fin cfg0.N,
    win0_0.index t = ![t.val / 4, 0, 0] ∧ win0_1.index t = ![0, 0] ∧ win0_2.index t = ![0, 0]
    ∧ win0_3.index t = ![0, 0] ∧ win0_4.index t = ![0, t.val % 4] ∧ win0_5.index t = ![t.val / 4, t.val % 4] :=
  (by decide +kernel : ∀ t : Fin grid0.N, _)

set_option maxHeartbeats 1600000 in
/-- The tile of tokens. -/
theorem here (c : Dev nD) (t : Fin cfg0.N) (s : Fin 64) (b : Fin 16) (d : Fin 1024) (p : Fin 2048) (hp : p.val = t.val / 4 * 64 + s.val) :
    (iblk m c 0 t : Vec Ideal S64x16x1024 .f32) (ix3 s b d) = (m ((c : Thread nD τ).loc main_arg0) : Vec Ideal S2048x16x1024 .f32) (ix3 p b d) := by
  blk_point [iblk, V, idx t, hp]

set_option maxHeartbeats 1600000 in
/-- The gain of the norm. -/
theorem gain (c : Dev nD) (t : Fin cfg0.N) (d : Fin 1024) :
    (iblk m c 1 t : Vec Ideal S1x1024 .f32) (ix2 0 d) = (m ((c : Thread nD τ).loc main_arg1) : Vec Ideal S1x1024 .f32) (ix2 0 d) := by
  have he : ((cfg0.win 1).blk t).view.emb (ix2 0 d) = ix2 0 d := by
    blk_ext [idx t]
  show (V m c main_v3 : Vec Ideal S1x1024 .f32) (((cfg0.win 1).blk t).view.emb (ix2 0 d)) = _
  rw [he]
  entry_read
  pointwise

set_option maxHeartbeats 1600000 in
/-- The modulation scale. -/
theorem scale (c : Dev nD) (t : Fin cfg0.N) (b : Fin 16) (d : Fin 1024) :
    (iblk m c 2 t : Vec Ideal S16x1024 .f32) (ix2 b d) = (m ((c : Thread nD τ).loc main_arg2) : Vec Ideal S16x1024 .f32) (ix2 b d) := by
  blk_point [iblk, V, idx t]

set_option maxHeartbeats 1600000 in
/-- The modulation shift. -/
theorem shift (c : Dev nD) (t : Fin cfg0.N) (b : Fin 16) (d : Fin 1024) :
    (iblk m c 3 t : Vec Ideal S16x1024 .f32) (ix2 b d) = (m ((c : Thread nD τ).loc main_arg3) : Vec Ideal S16x1024 .f32) (ix2 b d) := by
  blk_point [iblk, V, idx t]

set_option maxHeartbeats 1600000 in
/-- The weights of a tile of the recurrent branch. -/
theorem weight_lo (c : Dev nD) (t : Fin cfg0.N) (h : t.val % 4 ≤ 1) (j e : Fin 1024) (q : Fin 7168) (hq : q.val = t.val % 4 * 1024 + e.val) :
    (iblk m c 4 t : Vec Ideal S1024x1024 .bf16) (ix2 j e) = (m ((c : Thread nD τ).loc main_arg4) : Vec Ideal S1x1024x7168 .f32) (ix3 0 j q) := by
  have he : ((cfg0.win 4).blk t).view.emb (ix2 j e) = ix2 j ⟨t.val % 4 * 1024 + e.val, by omega⟩ := by
    blk_ext [idx t]
  show (V m c main_v6 : Vec Ideal S1024x4096 .bf16) (((cfg0.win 4).blk t).view.emb (ix2 j e)) = _
  rw [he]
  have hlt : t.val % 4 * 1024 + e.val < 2048 := by omega
  entry_read
  pointwise
  rw [dif_pos hlt]
  exact congrArg (fun k => (m ((c : Thread nD τ).loc main_arg4) : Vec Ideal S1x1024x7168 .f32) (ix3 0 j k)) (Fin.ext hq.symm)

set_option maxHeartbeats 1600000 in
/-- The weights of a tile of the gates. -/
theorem weight_hi (c : Dev nD) (t : Fin cfg0.N) (h : 2 ≤ t.val % 4) (j e : Fin 1024) (q : Fin 7168) (hq : q.val = 5120 + (t.val % 4 * 1024 + e.val - 2048)) :
    (iblk m c 4 t : Vec Ideal S1024x1024 .bf16) (ix2 j e) = (m ((c : Thread nD τ).loc main_arg4) : Vec Ideal S1x1024x7168 .f32) (ix3 0 j q) := by
  have he : ((cfg0.win 4).blk t).view.emb (ix2 j e) = ix2 j ⟨t.val % 4 * 1024 + e.val, by omega⟩ := by
    blk_ext [idx t]
  show (V m c main_v6 : Vec Ideal S1024x4096 .bf16) (((cfg0.win 4).blk t).view.emb (ix2 j e)) = _
  rw [he]
  have hlt : ¬ t.val % 4 * 1024 + e.val < 2048 := by omega
  entry_read
  pointwise
  rw [dif_neg hlt]
  exact congrArg (fun k => (m ((c : Thread nD τ).loc main_arg4) : Vec Ideal S1x1024x7168 .f32) (ix3 0 j k)) (Fin.ext hq.symm)

end Cert.InSbIdeal.Hand

end
-- ==== Proof.InSb.lean ====
module

public import proofs.«01_k».proof.Proof.InSbRef
public import proofs.«01_k».proof.Proof.InSbKer
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InSbIdeal.Hand

open Idealize.ShloMosaic Idealize.ShloMosaic.TcCoe Idealize.SL.Sem
open Idealize.ShloMosaic.Pipeline (Dat)
open Cert.InSbIdeal Cert.InSbIdeal.Gen Cert.FfnMath Cert.InSbRef

variable (m : (ℓ : Loc nD τ sig) → Buf (Elt Ideal) ℓ)

set_option maxHeartbeats 1600000 in
/-- The features a point computes are the reference's. -/
theorem fresh (c : Dev nD) (t : Fin cfg0.N) (s : Fin 64) (b : Fin 16) (j : Fin 1024) (p : Fin 2048) (hp : p.val = t.val / 4 * 64 + s.val) :
    k0_pay1 (iblk m c 0 t) (iblk m c 1 t) (iblk m c 2 t) (iblk m c 3 t) (ix2 ⟨s.val * 16 + b.val, by omega⟩ j) = feat (m ((c : Thread nD τ).loc main_arg0)) (m ((c : Thread nD τ).loc main_arg1)) (m ((c : Thread nD τ).loc main_arg2)) (m ((c : Thread nD τ).loc main_arg3)) p b j := by
  rw [pay1_eq]
  unfold feat
  rw [funext fun d => here m c t s b d p hp, funext (gain m c t), funext (scale m c t b), funext (shift m c t b)]

set_option maxHeartbeats 1600000 in
/-- After every point the scratch holds the features of the point's tile of tokens. -/
theorem held (c : Dev nD) (n : ℕ) (hn : n < cfg0.N) (s : Fin 64) (b : Fin 16) (j : Fin 1024) (p : Fin 2048) (hp : p.val = n / 4 * 64 + s.val) :
    (outsAt0 m c n hn).2 (ix2 ⟨s.val * 16 + b.val, by omega⟩ j) = feat (m ((c : Thread nD τ).loc main_arg0)) (m ((c : Thread nD τ).loc main_arg1)) (m ((c : Thread nD τ).loc main_arg2)) (m ((c : Thread nD τ).loc main_arg3)) p b j := by
  induction n with
  | zero =>
    rw [outsAt0_A m c ⟨0, hn⟩ (by show 0 % 4 = 0; omega) (by show 0 % 4 ≤ 1; omega) (by show ¬ 2 ≤ 0 % 4; omega)]
    frame_out
    exact fresh m c ⟨0, hn⟩ s b j p hp
  | succ n ih =>
    by_cases h0 : (n + 1) % 4 = 0
    · rw [outsAt0_A m c ⟨n + 1, hn⟩ h0 (by show (n + 1) % 4 ≤ 1; omega) (by show ¬ 2 ≤ (n + 1) % 4; omega)]
      frame_out
      exact fresh m c ⟨n + 1, hn⟩ s b j p hp
    · by_cases h1 : (n + 1) % 4 ≤ 1
      · rw [outsAt0_B m c ⟨n + 1, hn⟩ h0 h1 (by show ¬ 2 ≤ (n + 1) % 4; omega)]
        unfold sout0_B_0
        exact ih (by omega) (by omega)
      · rw [outsAt0_C m c ⟨n + 1, hn⟩ h0 h1 (by show 2 ≤ (n + 1) % 4; omega)]
        unfold sout0_C_0
        exact ih (by omega) (by omega)

/-- The reference's result as a function of the kernel's arguments. -/
def REF (x0 : FVec Ideal S2048x16x1024 .f32) (x1 : FVec Ideal S1x1024 .f32) (x2 x3 : FVec Ideal S16x1024 .f32) (x4 : FVec Ideal S1x1024x7168 .f32) :
    FVec Ideal S32768x4096 .bf16 :=
  Cert.InSbRefIdeal.Read.val_main_v35 (F := Ideal) x0 x1 x2 x3 x4

set_option maxHeartbeats 1600000 in
/-- A tile of the recurrent branch, over features that are the reference's. -/
theorem point_lo (c : Dev nD) (t : Fin cfg0.N) (h : t.val % 4 ≤ 1) (H : Vec Ideal S1024x1024 .bf16)
    (hH : ∀ (s : Fin 64) (b : Fin 16) (j : Fin 1024) (p : Fin 2048), p.val = t.val / 4 * 64 + s.val → H (ix2 ⟨s.val * 16 + b.val, by omega⟩ j) = feat (m ((c : Thread nD τ).loc main_arg0)) (m ((c : Thread nD τ).loc main_arg1)) (m ((c : Thread nD τ).loc main_arg2)) (m ((c : Thread nD τ).loc main_arg3)) p b j)
    (r e : Fin 1024) (r' : Fin 32768) (e' : Fin 4096) (hr : r'.val = t.val / 4 * 1024 + r.val) (he : e'.val = t.val % 4 * 1024 + e.val) :
    k0_pay3 H (iblk m c 4 t) (ix2 r e) = REF (m ((c : Thread nD τ).loc main_arg0)) (m ((c : Thread nD τ).loc main_arg1)) (m ((c : Thread nD τ).loc main_arg2)) (m ((c : Thread nD τ).loc main_arg3)) (m ((c : Thread nD τ).loc main_arg4)) (ix2 r' e') := by
  have ht : t.val < 128 := t.isLt
  have h1 := v35_lo (m ((c : Thread nD τ).loc main_arg0)) (m ((c : Thread nD τ).loc main_arg1)) (m ((c : Thread nD τ).loc main_arg2)) (m ((c : Thread nD τ).loc main_arg3)) (m ((c : Thread nD τ).loc main_arg4)) ⟨r.val % 16, by omega⟩ ⟨t.val / 4 * 64 + r.val / 16, by omega⟩ ⟨e'.val, by omega⟩
  rw [show (⟨(t.val / 4 * 64 + r.val / 16) * 16 + r.val % 16, by omega⟩ : Fin 32768) = r' from Fin.ext (by show (t.val / 4 * 64 + r.val / 16) * 16 + r.val % 16 = r'.val; omega)] at h1
  refine Eq.trans ?_ h1.symm
  rw [pay3_eq]
  unfold col
  refine Finset.sum_congr rfl fun j _ => ?_
  have h2 := hH ⟨r.val / 16, by omega⟩ ⟨r.val % 16, by omega⟩ j ⟨t.val / 4 * 64 + r.val / 16, by omega⟩ rfl
  rw [show (⟨r.val / 16 * 16 + r.val % 16, by omega⟩ : Fin 1024) = r from Fin.ext (by show r.val / 16 * 16 + r.val % 16 = r.val; omega)] at h2
  rw [h2, weight_lo m c t h j e ⟨e'.val, by omega⟩ he]

set_option maxHeartbeats 1600000 in
/-- A tile of the gates, over features that are the reference's. -/
theorem point_hi (c : Dev nD) (t : Fin cfg0.N) (h : 2 ≤ t.val % 4) (H : Vec Ideal S1024x1024 .bf16)
    (hH : ∀ (s : Fin 64) (b : Fin 16) (j : Fin 1024) (p : Fin 2048), p.val = t.val / 4 * 64 + s.val → H (ix2 ⟨s.val * 16 + b.val, by omega⟩ j) = feat (m ((c : Thread nD τ).loc main_arg0)) (m ((c : Thread nD τ).loc main_arg1)) (m ((c : Thread nD τ).loc main_arg2)) (m ((c : Thread nD τ).loc main_arg3)) p b j)
    (r e : Fin 1024) (r' : Fin 32768) (e' : Fin 4096) (hr : r'.val = t.val / 4 * 1024 + r.val) (he : e'.val = t.val % 4 * 1024 + e.val) :
    k0_pay4 H (iblk m c 4 t) (ix2 r e) = REF (m ((c : Thread nD τ).loc main_arg0)) (m ((c : Thread nD τ).loc main_arg1)) (m ((c : Thread nD τ).loc main_arg2)) (m ((c : Thread nD τ).loc main_arg3)) (m ((c : Thread nD τ).loc main_arg4)) (ix2 r' e') := by
  have ht : t.val < 128 := t.isLt
  have h1 := v35_hi (m ((c : Thread nD τ).loc main_arg0)) (m ((c : Thread nD τ).loc main_arg1)) (m ((c : Thread nD τ).loc main_arg2)) (m ((c : Thread nD τ).loc main_arg3)) (m ((c : Thread nD τ).loc main_arg4)) ⟨r.val % 16, by omega⟩ ⟨t.val / 4 * 64 + r.val / 16, by omega⟩ ⟨e'.val - 2048, by omega⟩
  rw [show (⟨(t.val / 4 * 64 + r.val / 16) * 16 + r.val % 16, by omega⟩ : Fin 32768) = r' from Fin.ext (by show (t.val / 4 * 64 + r.val / 16) * 16 + r.val % 16 = r'.val; omega),
    show (⟨2048 + (e'.val - 2048), by omega⟩ : Fin 4096) = e' from Fin.ext (by show 2048 + (e'.val - 2048) = e'.val; omega)] at h1
  refine Eq.trans ?_ h1.symm
  rw [pay4_eq]
  unfold col
  refine congrArg Ideal.logistic (Finset.sum_congr rfl fun j _ => ?_)
  have h2 := hH ⟨r.val / 16, by omega⟩ ⟨r.val % 16, by omega⟩ j ⟨t.val / 4 * 64 + r.val / 16, by omega⟩ rfl
  rw [show (⟨r.val / 16 * 16 + r.val % 16, by omega⟩ : Fin 1024) = r from Fin.ext (by show r.val / 16 * 16 + r.val % 16 = r.val; omega)] at h2
  rw [h2, weight_hi m c t h j e ⟨5120 + (e'.val - 2048), by omega⟩ (by show 5120 + (e'.val - 2048) = _; rw [he])]

set_option maxHeartbeats 1600000 in
/-- What a point leaves for the result is the reference's block. -/
theorem stored (c : Dev nD) (t : Fin cfg0.N) (r e : Fin 1024) (r' : Fin 32768) (e' : Fin 4096) (hr : r'.val = t.val / 4 * 1024 + r.val) (he : e'.val = t.val % 4 * 1024 + e.val) :
    (outsAt0 m c t.val t.isLt).1 (ix2 r e) = REF (m ((c : Thread nD τ).loc main_arg0)) (m ((c : Thread nD τ).loc main_arg1)) (m ((c : Thread nD τ).loc main_arg2)) (m ((c : Thread nD τ).loc main_arg3)) (m ((c : Thread nD τ).loc main_arg4)) (ix2 r' e') := by
  have ht : t.val < 128 := t.isLt
  by_cases h0 : t.val % 4 = 0
  · rw [outsAt0_A m c t h0 (by omega) (by omega)]
    frame_out
    exact point_lo m c t (by omega) _ (fun s b j p hp => fresh m c t s b j p hp) r e r' e' hr he
  · have hH : ∀ (s : Fin 64) (b : Fin 16) (j : Fin 1024) (p : Fin 2048), p.val = t.val / 4 * 64 + s.val →
        (outsAt0 m c (t.val - 1) (Nat.lt_of_le_of_lt (Nat.sub_le _ _) t.isLt)).2 (ix2 ⟨s.val * 16 + b.val, by omega⟩ j) = feat (m ((c : Thread nD τ).loc main_arg0)) (m ((c : Thread nD τ).loc main_arg1)) (m ((c : Thread nD τ).loc main_arg2)) (m ((c : Thread nD τ).loc main_arg3)) p b j :=
      fun s b j p hp => held m c (t.val - 1) _ s b j p (by omega)
    by_cases h1 : t.val % 4 ≤ 1
    · rw [outsAt0_B m c t h0 h1 (by omega)]
      frame_out
      rw [read_unread_whole]
      exact point_lo m c t h1 _ hH r e r' e' hr he
    · rw [outsAt0_C m c t h0 h1 (by omega)]
      frame_out
      rw [read_unread_whole]
      exact point_hi m c t (by omega) _ hH r e r' e' hr he

set_option maxHeartbeats 1600000 in
/-- The result array after the run is the reference's result. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine (congrArg (outsAt0 m c t.val t.isLt).1 (show (y : S1024x1024.Idx) = ix2 (y 0) (y 1) from by funext a; fin_cases a <;> rfl)).trans ?_
  have ht : t.val < 128 := t.isLt
  have hy0 : (y 0).val < 1024 := (y 0).isLt
  have hy1 : (y 1).val < 1024 := (y 1).isLt
  refine (stored m c t (y 0) (y 1) ⟨t.val / 4 * 1024 + (y 0).val, by omega⟩ ⟨t.val % 4 * 1024 + (y 1).val, by omega⟩ rfl rfl).trans (congrArg (REF _ _ _ _ _) ?_)
  blk_ext [idx t]

end Cert.InSbIdeal.Hand

end
-- ==== Proof.InBsRef.lean ====
module

public import proofs.«01_k».proof.Proof.FfnMath
public import proofs.«01_k».proof.Proof.Gen.InBsRefIdeal.Read
public import Idealize.ShloMosaic.Lib.Pipeline.ValueKit
public import Idealize.ShloMosaic.Lib.Pointwise

@[expose] public section

set_option maxRecDepth 16384

noncomputable section

namespace Cert.InBsRef

open Idealize.ShloMosaic Idealize.ShloMosaic.TcCoe Idealize.SL.Sem
open Idealize.ShloMosaic.Pipeline (Dat)
open Cert.InBsRefIdeal Cert.InBsRefIdeal.Read Cert.FfnMath

variable (x0 : Vec Ideal Cert.InBsRefIdeal.S16x2048x1024 .f32) (x1 : Vec Ideal Cert.InBsRefIdeal.S1x1024 .f32)
  (x2 x3 : Vec Ideal Cert.InBsRefIdeal.S16x1024 .f32) (x4 : Vec Ideal Cert.InBsRefIdeal.S16x2048 .i32)
  (x5 : Vec Ideal Cert.InBsRefIdeal.S1x1024x7168 .f32)

/-- A token's features, normalized and modulated. -/
def feat (b : Fin 16) (p : Fin 2048) (j : Fin 1024) : EReal :=
  mrow (fun d => x0 (ix3 b p d)) (fun d => x1 (ix2 0 d)) (fun d => x2 (ix2 b d)) (fun d => x3 (ix2 b d)) j

/-- One column of the input projection. -/
def col (b : Fin 16) (p : Fin 2048) (e : Fin 7168) : EReal := ∑ j : Fin 1024, feat x0 x1 x2 x3 b p j * x5 (ix3 0 j e)

/-- A token's angle at one frequency. -/
def ang (b : Fin 16) (p : Fin 2048) (i : Fin 8) : EReal := val_main_v10 x4 (ix2 b p) * val_main_v9 (ix1 i)

/-- One column of a row after the rotation of the first sixteen columns of every head half. -/
def turn (u : Fin 1024 → EReal) (a : Fin 8 → EReal) (e : Fin 1024) : EReal :=
  if h : e.val % 64 < 8 then
    u e * Ideal.cos (a ⟨e.val % 64, h⟩) - u ⟨e.val + 8, by omega⟩ * Ideal.sin (a ⟨e.val % 64, h⟩)
  else if h2 : e.val % 64 < 16 then
    u e * Ideal.cos (a ⟨e.val % 64 - 8, by omega⟩) + u ⟨e.val - 8, by omega⟩ * Ideal.sin (a ⟨e.val % 64 - 8, by omega⟩)
  else u e

set_option maxHeartbeats 1600000 in
/-- The mean square of a token's features, through the reciprocal root. -/
theorem v28_eq (b : Fin 16) (p : Fin 2048) :
    val_main_v28 x0 (ix3 b p 0) = rms fun d => x0 (ix3 b p d) := by
  pointwise [Cert.InBsRefIdeal.Read.val_main_v21, Cert.InBsRefIdeal.Read.val_main_cst_3, Cert.InBsRefIdeal.Read.val_main_v22, Cert.InBsRefIdeal.Read.val_main_v23, Cert.InBsRefIdeal.Read.val_main_cst_4, Cert.InBsRefIdeal.Read.val_main_v24, Cert.InBsRefIdeal.Read.val_main_v25, Cert.InBsRefIdeal.Read.val_main_cst_5, Cert.InBsRefIdeal.Read.val_main_v26, Cert.InBsRefIdeal.Read.val_main_v27, Cert.InBsRefIdeal.Read.val_main_v28, rms]

set_option maxHeartbeats 1600000 in
/-- The normalized, modulated features. -/
theorem v41_eq (b : Fin 16) (p : Fin 2048) (j : Fin 1024) :
    val_main_v41 x0 x1 x2 x3 (ix3 b p j) = feat x0 x1 x2 x3 b p j := by
  have h := v28_eq x0 b p
  pointwise [Cert.InBsRefIdeal.Read.val_main_v20, Cert.InBsRefIdeal.Read.val_main_v29, Cert.InBsRefIdeal.Read.val_main_v30, Cert.InBsRefIdeal.Read.val_main_v31, Cert.InBsRefIdeal.Read.val_main_v32, Cert.InBsRefIdeal.Read.val_main_v33, Cert.InBsRefIdeal.Read.val_main_v34, Cert.InBsRefIdeal.Read.val_main_cst_6, Cert.InBsRefIdeal.Read.val_main_v35, Cert.InBsRefIdeal.Read.val_main_v36, Cert.InBsRefIdeal.Read.val_main_v37, Cert.InBsRefIdeal.Read.val_main_v38, Cert.InBsRefIdeal.Read.val_main_v39, Cert.InBsRefIdeal.Read.val_main_v40, Cert.InBsRefIdeal.Read.val_main_v41, feat, mrow, nrm]
  rw [h]

set_option maxHeartbeats 1600000 in
/-- The projection. -/
theorem v43_eq (b : Fin 16) (p : Fin 2048) (e : Fin 7168) :
    val_main_v43 x0 x1 x2 x3 x5 (ix3 b p e) = col x0 x1 x2 x3 x5 b p e := by
  have h := fun j => v41_eq x0 x1 x2 x3 b p j
  pointwise [Cert.InBsRefIdeal.Read.val_main_v42, Cert.InBsRefIdeal.Read.val_main_v43, col]
  refine Finset.sum_congr rfl fun j _ => ?_
  rw [h]

set_option maxHeartbeats 1600000 in
/-- The angle's cosine. -/
theorem v17_eq (b : Fin 16) (p : Fin 2048) (i : Fin 8) :
    val_main_v17 x4 (ix5 b p 0 0 i) = Ideal.cos (ang x4 b p i) := by
  pointwise [Cert.InBsRefIdeal.Read.val_main_v11, Cert.InBsRefIdeal.Read.val_main_v12, Cert.InBsRefIdeal.Read.val_main_v13, Cert.InBsRefIdeal.Read.val_main_v14, Cert.InBsRefIdeal.Read.val_main_v15, Cert.InBsRefIdeal.Read.val_main_v16, Cert.InBsRefIdeal.Read.val_main_v17, ang]

set_option maxHeartbeats 1600000 in
/-- The angle's sine. -/
theorem v19_eq (b : Fin 16) (p : Fin 2048) (i : Fin 8) :
    val_main_v19 x4 (ix5 b p 0 0 i) = Ideal.sin (ang x4 b p i) := by
  pointwise [Cert.InBsRefIdeal.Read.val_main_v11, Cert.InBsRefIdeal.Read.val_main_v12, Cert.InBsRefIdeal.Read.val_main_v13, Cert.InBsRefIdeal.Read.val_main_v14, Cert.InBsRefIdeal.Read.val_main_v15, Cert.InBsRefIdeal.Read.val_main_v18, Cert.InBsRefIdeal.Read.val_main_v19, ang]

set_option maxHeartbeats 1600000 in
/-- The queries, by head and half. -/
theorem v49_eq (b : Fin 16) (p : Fin 2048) (h : Fin 8) (s : Fin 2) (l : Fin 64) :
    val_main_v49 x0 x1 x2 x3 x5 (ix5 b p h s l) = col x0 x1 x2 x3 x5 b p ⟨2048 + (h.val * 128 + s.val * 64 + (l.val)), by omega⟩ := by
  have e := v43_eq x0 x1 x2 x3 x5 b p ⟨2048 + (h.val * 128 + s.val * 64 + l.val), by omega⟩
  pointwise [Cert.InBsRefIdeal.Read.val_main_v49, Cert.InBsRefIdeal.Read.val_main_v45]
  exact e

set_option maxHeartbeats 1600000 in
/-- The first rotated columns of the queries. -/
theorem v56_eq (b : Fin 16) (p : Fin 2048) (h : Fin 8) (s : Fin 2) (l : Fin 8) :
    val_main_v56 x0 x1 x2 x3 x4 x5 (ix5 b p h s l) = col x0 x1 x2 x3 x5 b p ⟨2048 + (h.val * 128 + s.val * 64 + (l.val)), by omega⟩ * Ideal.cos (ang x4 b p l) - col x0 x1 x2 x3 x5 b p ⟨2048 + (h.val * 128 + s.val * 64 + (8 + l.val)), by omega⟩ * Ideal.sin (ang x4 b p l) := by
  have e0 := v49_eq x0 x1 x2 x3 x5 b p h s ⟨l.val, by omega⟩
  have e1 := v49_eq x0 x1 x2 x3 x5 b p h s ⟨8 + l.val, by omega⟩
  have e2 := v17_eq x4 b p l
  have e3 := v19_eq x4 b p l
  pointwise [Cert.InBsRefIdeal.Read.val_main_v50, Cert.InBsRefIdeal.Read.val_main_v51, Cert.InBsRefIdeal.Read.val_main_v52, Cert.InBsRefIdeal.Read.val_main_v53, Cert.InBsRefIdeal.Read.val_main_v54, Cert.InBsRefIdeal.Read.val_main_v55, Cert.InBsRefIdeal.Read.val_main_v56]
  rw [e0, e1, e2, e3]

set_option maxHeartbeats 1600000 in
/-- The second rotated columns of the queries. -/
theorem v61_eq (b : Fin 16) (p : Fin 2048) (h : Fin 8) (s : Fin 2) (l : Fin 8) :
    val_main_v61 x0 x1 x2 x3 x4 x5 (ix5 b p h s l) = col x0 x1 x2 x3 x5 b p ⟨2048 + (h.val * 128 + s.val * 64 + (8 + l.val)), by omega⟩ * Ideal.cos (ang x4 b p l) + col x0 x1 x2 x3 x5 b p ⟨2048 + (h.val * 128 + s.val * 64 + (l.val)), by omega⟩ * Ideal.sin (ang x4 b p l) := by
  have e0 := v49_eq x0 x1 x2 x3 x5 b p h s ⟨l.val, by omega⟩
  have e1 := v49_eq x0 x1 x2 x3 x5 b p h s ⟨8 + l.val, by omega⟩
  have e2 := v17_eq x4 b p l
  have e3 := v19_eq x4 b p l
  pointwise [Cert.InBsRefIdeal.Read.val_main_v50, Cert.InBsRefIdeal.Read.val_main_v51, Cert.InBsRefIdeal.Read.val_main_v57, Cert.InBsRefIdeal.Read.val_main_v58, Cert.InBsRefIdeal.Read.val_main_v59, Cert.InBsRefIdeal.Read.val_main_v60, Cert.InBsRefIdeal.Read.val_main_v61]
  rw [e0, e1, e2, e3]

set_option maxHeartbeats 1600000 in
/-- The keys, by head and half. -/
theorem v66_eq (b : Fin 16) (p : Fin 2048) (h : Fin 8) (s : Fin 2) (l : Fin 64) :
    val_main_v66 x0 x1 x2 x3 x5 (ix5 b p h s l) = col x0 x1 x2 x3 x5 b p ⟨3072 + (h.val * 128 + s.val * 64 + (l.val)), by omega⟩ := by
  have e := v43_eq x0 x1 x2 x3 x5 b p ⟨3072 + (h.val * 128 + s.val * 64 + l.val), by omega⟩
  pointwise [Cert.InBsRefIdeal.Read.val_main_v66, Cert.InBsRefIdeal.Read.val_main_v46]
  exact e

set_option maxHeartbeats 1600000 in
/-- The first rotated columns of the keys. -/
theorem v73_eq (b : Fin 16) (p : Fin 2048) (h : Fin 8) (s : Fin 2) (l : Fin 8) :
    val_main_v73 x0 x1 x2 x3 x4 x5 (ix5 b p h s l) = col x0 x1 x2 x3 x5 b p ⟨3072 + (h.val * 128 + s.val * 64 + (l.val)), by omega⟩ * Ideal.cos (ang x4 b p l) - col x0 x1 x2 x3 x5 b p ⟨3072 + (h.val * 128 + s.val * 64 + (8 + l.val)), by omega⟩ * Ideal.sin (ang x4 b p l) := by
  have e0 := v66_eq x0 x1 x2 x3 x5 b p h s ⟨l.val, by omega⟩
  have e1 := v66_eq x0 x1 x2 x3 x5 b p h s ⟨8 + l.val, by omega⟩
  have e2 := v17_eq x4 b p l
  have e3 := v19_eq x4 b p l
  pointwise [Cert.InBsRefIdeal.Read.val_main_v67, Cert.InBsRefIdeal.Read.val_main_v68, Cert.InBsRefIdeal.Read.val_main_v69, Cert.InBsRefIdeal.Read.val_main_v70, Cert.InBsRefIdeal.Read.val_main_v71, Cert.InBsRefIdeal.Read.val_main_v72, Cert.InBsRefIdeal.Read.val_main_v73]
  rw [e0, e1, e2, e3]

set_option maxHeartbeats 1600000 in
/-- The second rotated columns of the keys. -/
theorem v78_eq (b : Fin 16) (p : Fin 2048) (h : Fin 8) (s : Fin 2) (l : Fin 8) :
    val_main_v78 x0 x1 x2 x3 x4 x5 (ix5 b p h s l) = col x0 x1 x2 x3 x5 b p ⟨3072 + (h.val * 128 + s.val * 64 + (8 + l.val)), by omega⟩ * Ideal.cos (ang x4 b p l) + col x0 x1 x2 x3 x5 b p ⟨3072 + (h.val * 128 + s.val * 64 + (l.val)), by omega⟩ * Ideal.sin (ang x4 b p l) := by
  have e0 := v66_eq x0 x1 x2 x3 x5 b p h s ⟨l.val, by omega⟩
  have e1 := v66_eq x0 x1 x2 x3 x5 b p h s ⟨8 + l.val, by omega⟩
  have e2 := v17_eq x4 b p l
  have e3 := v19_eq x4 b p l
  pointwise [Cert.InBsRefIdeal.Read.val_main_v67, Cert.InBsRefIdeal.Read.val_main_v68, Cert.InBsRefIdeal.Read.val_main_v74, Cert.InBsRefIdeal.Read.val_main_v75, Cert.InBsRefIdeal.Read.val_main_v76, Cert.InBsRefIdeal.Read.val_main_v77, Cert.InBsRefIdeal.Read.val_main_v78]
  rw [e0, e1, e2, e3]

set_option maxHeartbeats 1600000 in
/-- The result at the first columns of a head half of the queries. -/
theorem query0_eq (b : Fin 16) (p : Fin 2048) (h : Fin 8) (s : Fin 2) (l : Fin 8) :
    val_main_v84 x0 x1 x2 x3 x4 x5 (ix3 b p ⟨(h.val * 128 + s.val * 64 + (l.val)), by omega⟩) = val_main_v56 x0 x1 x2 x3 x4 x5 (ix5 b p h s l) * Ideal.ofBits FTy.f32 1040187392#32 := by
  pointwise [Cert.InBsRefIdeal.Read.val_main_v63, Cert.InBsRefIdeal.Read.val_main_cst_7, Cert.InBsRefIdeal.Read.val_main_v64, Cert.InBsRefIdeal.Read.val_main_v65, Cert.InBsRefIdeal.Read.val_main_v81, Cert.InBsRefIdeal.Read.val_main_v83, Cert.InBsRefIdeal.Read.val_main_v84]
  refine (dif_pos (by omega)).trans ?_
  refine congrArg (fun z => z * Ideal.ofBits FTy.f32 1040187392#32) ?_
  refine (dif_pos (by omega)).trans ?_
  exact congrArg (fun k => val_main_v56 x0 x1 x2 x3 x4 x5 (ix5 b p h s k)) (Fin.ext (by show (h.val * 128 + s.val * 64 + (l.val)) % 64 = l.val; omega))

set_option maxHeartbeats 1600000 in
/-- The result at the second columns of a head half of the queries. -/
theorem query1_eq (b : Fin 16) (p : Fin 2048) (h : Fin 8) (s : Fin 2) (l : Fin 8) :
    val_main_v84 x0 x1 x2 x3 x4 x5 (ix3 b p ⟨(h.val * 128 + s.val * 64 + (8 + l.val)), by omega⟩) = val_main_v61 x0 x1 x2 x3 x4 x5 (ix5 b p h s l) * Ideal.ofBits FTy.f32 1040187392#32 := by
  pointwise [Cert.InBsRefIdeal.Read.val_main_v63, Cert.InBsRefIdeal.Read.val_main_cst_7, Cert.InBsRefIdeal.Read.val_main_v64, Cert.InBsRefIdeal.Read.val_main_v65, Cert.InBsRefIdeal.Read.val_main_v81, Cert.InBsRefIdeal.Read.val_main_v83, Cert.InBsRefIdeal.Read.val_main_v84]
  refine (dif_pos (by omega)).trans ?_
  refine congrArg (fun z => z * Ideal.ofBits FTy.f32 1040187392#32) ?_
  refine (dif_neg (by omega)).trans ((dif_pos (by omega)).trans ?_)
  exact congrArg (fun k => val_main_v61 x0 x1 x2 x3 x4 x5 (ix5 b p h s k)) (Fin.ext (by show (h.val * 128 + s.val * 64 + (8 + l.val)) % 64 - 8 = l.val; omega))

set_option maxHeartbeats 1600000 in
/-- The result at the other columns of a head half of the queries. -/
theorem query2_eq (b : Fin 16) (p : Fin 2048) (h : Fin 8) (s : Fin 2) (l : Fin 48) :
    val_main_v84 x0 x1 x2 x3 x4 x5 (ix3 b p ⟨(h.val * 128 + s.val * 64 + (16 + l.val)), by omega⟩) = col x0 x1 x2 x3 x5 b p ⟨2048 + (h.val * 128 + s.val * 64 + (16 + l.val)), by omega⟩ * Ideal.ofBits FTy.f32 1040187392#32 := by
  have e := v49_eq x0 x1 x2 x3 x5 b p h s ⟨16 + l.val, by omega⟩
  pointwise [Cert.InBsRefIdeal.Read.val_main_v63, Cert.InBsRefIdeal.Read.val_main_cst_7, Cert.InBsRefIdeal.Read.val_main_v64, Cert.InBsRefIdeal.Read.val_main_v65, Cert.InBsRefIdeal.Read.val_main_v81, Cert.InBsRefIdeal.Read.val_main_v83, Cert.InBsRefIdeal.Read.val_main_v84, Cert.InBsRefIdeal.Read.val_main_v62]
  refine (dif_pos (by omega)).trans ?_
  refine congrArg (fun z => z * Ideal.ofBits FTy.f32 1040187392#32) ?_
  refine (dif_neg (by omega)).trans ((dif_neg (by omega)).trans (Eq.trans ?_ e))
  exact congrArg (fun k => val_main_v49 x0 x1 x2 x3 x5 (ix5 b p h s k)) (Fin.ext (by show 16 + ((h.val * 128 + s.val * 64 + (16 + l.val)) % 64 - 8 - 8) = 16 + l.val; omega))

set_option maxHeartbeats 1600000 in
/-- The result at a column of the queries: the projection's column, rotated and scaled. -/
theorem query_eq (b : Fin 16) (p : Fin 2048) (e : Fin 1024) :
    val_main_v84 x0 x1 x2 x3 x4 x5 (ix3 b p ⟨e.val, by omega⟩) = turn (fun k => col x0 x1 x2 x3 x5 b p ⟨2048 + k.val, by omega⟩) (ang x4 b p) e * Ideal.ofBits FTy.f32 1040187392#32 := by
  unfold turn
  by_cases h0 : e.val % 64 < 8
  · rw [dif_pos h0]
    have w := query0_eq x0 x1 x2 x3 x4 x5 b p ⟨e.val / 128, by omega⟩ ⟨e.val / 64 % 2, by omega⟩ ⟨e.val % 64, by omega⟩
    rw [v56_eq] at w
    refine Eq.trans (congrArg (fun k => val_main_v84 x0 x1 x2 x3 x4 x5 (ix3 b p k)) (Fin.ext ?_)) (w.trans ?_)
    · show e.val = (e.val / 128 * 128 + e.val / 64 % 2 * 64 + (e.val % 64))
      omega
    have e0 : (⟨2048 + (e.val / 128 * 128 + e.val / 64 % 2 * 64 + (e.val % 64)), by omega⟩ : Fin 7168) = ⟨2048 + e.val, by omega⟩ := Fin.ext (by show 2048 + (e.val / 128 * 128 + e.val / 64 % 2 * 64 + (e.val % 64)) = 2048 + e.val; omega)
    have e1 : (⟨2048 + (e.val / 128 * 128 + e.val / 64 % 2 * 64 + (8 + e.val % 64)), by omega⟩ : Fin 7168) = ⟨2048 + (e.val + 8), by omega⟩ :=
      Fin.ext (by show 2048 + (e.val / 128 * 128 + e.val / 64 % 2 * 64 + (8 + e.val % 64)) = 2048 + (e.val + 8); omega)
    rw [e0, e1]
  · rw [dif_neg h0]
    by_cases h1 : e.val % 64 < 16
    · rw [dif_pos h1]
      have w := query1_eq x0 x1 x2 x3 x4 x5 b p ⟨e.val / 128, by omega⟩ ⟨e.val / 64 % 2, by omega⟩ ⟨(e.val % 64 - 8), by omega⟩
      rw [v61_eq] at w
      refine Eq.trans (congrArg (fun k => val_main_v84 x0 x1 x2 x3 x4 x5 (ix3 b p k)) (Fin.ext ?_)) (w.trans ?_)
      · show e.val = (e.val / 128 * 128 + e.val / 64 % 2 * 64 + (8 + (e.val % 64 - 8)))
        omega
      have e0 : (⟨2048 + (e.val / 128 * 128 + e.val / 64 % 2 * 64 + (8 + (e.val % 64 - 8))), by omega⟩ : Fin 7168) = ⟨2048 + e.val, by omega⟩ := Fin.ext (by show 2048 + (e.val / 128 * 128 + e.val / 64 % 2 * 64 + (8 + (e.val % 64 - 8))) = 2048 + e.val; omega)
      have e1 : (⟨2048 + (e.val / 128 * 128 + e.val / 64 % 2 * 64 + (e.val % 64 - 8)), by omega⟩ : Fin 7168) = ⟨2048 + (e.val - 8), by omega⟩ :=
        Fin.ext (by show 2048 + (e.val / 128 * 128 + e.val / 64 % 2 * 64 + (e.val % 64 - 8)) = 2048 + (e.val - 8); omega)
      rw [e0, e1]
    · rw [dif_neg h1]
      have w := query2_eq x0 x1 x2 x3 x4 x5 b p ⟨e.val / 128, by omega⟩ ⟨e.val / 64 % 2, by omega⟩ ⟨(e.val % 64 - 16), by omega⟩
      refine Eq.trans (congrArg (fun k => val_main_v84 x0 x1 x2 x3 x4 x5 (ix3 b p k)) (Fin.ext ?_)) (w.trans ?_)
      · show e.val = (e.val / 128 * 128 + e.val / 64 % 2 * 64 + (16 + (e.val % 64 - 16)))
        omega
      have e0 : (⟨2048 + (e.val / 128 * 128 + e.val / 64 % 2 * 64 + (16 + (e.val % 64 - 16))), by omega⟩ : Fin 7168) = ⟨2048 + e.val, by omega⟩ := Fin.ext (by show 2048 + (e.val / 128 * 128 + e.val / 64 % 2 * 64 + (16 + (e.val % 64 - 16))) = 2048 + e.val; omega)
      rw [e0]

set_option maxHeartbeats 1600000 in
/-- The result at the first columns of a head half of the keys. -/
theorem key0_eq (b : Fin 16) (p : Fin 2048) (h : Fin 8) (s : Fin 2) (l : Fin 8) :
    val_main_v84 x0 x1 x2 x3 x4 x5 (ix3 b p ⟨1024 + (h.val * 128 + s.val * 64 + (l.val)), by omega⟩) = val_main_v73 x0 x1 x2 x3 x4 x5 (ix5 b p h s l) := by
  pointwise [Cert.InBsRefIdeal.Read.val_main_v80, Cert.InBsRefIdeal.Read.val_main_v82, Cert.InBsRefIdeal.Read.val_main_v83, Cert.InBsRefIdeal.Read.val_main_v84]
  refine (dif_pos (by omega)).trans ?_
  refine (dif_pos (by omega)).trans ?_
  exact congrArg (fun k => val_main_v73 x0 x1 x2 x3 x4 x5 (ix5 b p h s k)) (Fin.ext (by show (h.val * 128 + s.val * 64 + (l.val)) % 64 = l.val; omega))

set_option maxHeartbeats 1600000 in
/-- The result at the second columns of a head half of the keys. -/
theorem key1_eq (b : Fin 16) (p : Fin 2048) (h : Fin 8) (s : Fin 2) (l : Fin 8) :
    val_main_v84 x0 x1 x2 x3 x4 x5 (ix3 b p ⟨1024 + (h.val * 128 + s.val * 64 + (8 + l.val)), by omega⟩) = val_main_v78 x0 x1 x2 x3 x4 x5 (ix5 b p h s l) := by
  pointwise [Cert.InBsRefIdeal.Read.val_main_v80, Cert.InBsRefIdeal.Read.val_main_v82, Cert.InBsRefIdeal.Read.val_main_v83, Cert.InBsRefIdeal.Read.val_main_v84]
  refine (dif_pos (by omega)).trans ?_
  refine (dif_neg (by omega)).trans ((dif_pos (by omega)).trans ?_)
  exact congrArg (fun k => val_main_v78 x0 x1 x2 x3 x4 x5 (ix5 b p h s k)) (Fin.ext (by show (h.val * 128 + s.val * 64 + (8 + l.val)) % 64 - 8 = l.val; omega))

set_option maxHeartbeats 1600000 in
/-- The result at the other columns of a head half of the keys. -/
theorem key2_eq (b : Fin 16) (p : Fin 2048) (h : Fin 8) (s : Fin 2) (l : Fin 48) :
    val_main_v84 x0 x1 x2 x3 x4 x5 (ix3 b p ⟨1024 + (h.val * 128 + s.val * 64 + (16 + l.val)), by omega⟩) = col x0 x1 x2 x3 x5 b p ⟨3072 + (h.val * 128 + s.val * 64 + (16 + l.val)), by omega⟩ := by
  have e := v66_eq x0 x1 x2 x3 x5 b p h s ⟨16 + l.val, by omega⟩
  pointwise [Cert.InBsRefIdeal.Read.val_main_v80, Cert.InBsRefIdeal.Read.val_main_v82, Cert.InBsRefIdeal.Read.val_main_v83, Cert.InBsRefIdeal.Read.val_main_v84, Cert.InBsRefIdeal.Read.val_main_v79]
  refine (dif_pos (by omega)).trans ?_
  refine (dif_neg (by omega)).trans ((dif_neg (by omega)).trans (Eq.trans ?_ e))
  exact congrArg (fun k => val_main_v66 x0 x1 x2 x3 x5 (ix5 b p h s k)) (Fin.ext (by show 16 + ((h.val * 128 + s.val * 64 + (16 + l.val)) % 64 - 8 - 8) = 16 + l.val; omega))

set_option maxHeartbeats 1600000 in
/-- The result at a column of the keys: the projection's column, rotated. -/
theorem key_eq (b : Fin 16) (p : Fin 2048) (e : Fin 1024) :
    val_main_v84 x0 x1 x2 x3 x4 x5 (ix3 b p ⟨1024 + e.val, by omega⟩) = turn (fun k => col x0 x1 x2 x3 x5 b p ⟨3072 + k.val, by omega⟩) (ang x4 b p) e := by
  unfold turn
  by_cases h0 : e.val % 64 < 8
  · rw [dif_pos h0]
    have w := key0_eq x0 x1 x2 x3 x4 x5 b p ⟨e.val / 128, by omega⟩ ⟨e.val / 64 % 2, by omega⟩ ⟨e.val % 64, by omega⟩
    rw [v73_eq] at w
    refine Eq.trans (congrArg (fun k => val_main_v84 x0 x1 x2 x3 x4 x5 (ix3 b p k)) (Fin.ext ?_)) (w.trans ?_)
    · show 1024 + e.val = 1024 + (e.val / 128 * 128 + e.val / 64 % 2 * 64 + (e.val % 64))
      omega
    have e0 : (⟨3072 + (e.val / 128 * 128 + e.val / 64 % 2 * 64 + (e.val % 64)), by omega⟩ : Fin 7168) = ⟨3072 + e.val, by omega⟩ := Fin.ext (by show 3072 + (e.val / 128 * 128 + e.val / 64 % 2 * 64 + (e.val % 64)) = 3072 + e.val; omega)
    have e1 : (⟨3072 + (e.val / 128 * 128 + e.val / 64 % 2 * 64 + (8 + e.val % 64)), by omega⟩ : Fin 7168) = ⟨3072 + (e.val + 8), by omega⟩ :=
      Fin.ext (by show 3072 + (e.val / 128 * 128 + e.val / 64 % 2 * 64 + (8 + e.val % 64)) = 3072 + (e.val + 8); omega)
    rw [e0, e1]
  · rw [dif_neg h0]
    by_cases h1 : e.val % 64 < 16
    · rw [dif_pos h1]
      have w := key1_eq x0 x1 x2 x3 x4 x5 b p ⟨e.val / 128, by omega⟩ ⟨e.val / 64 % 2, by omega⟩ ⟨(e.val % 64 - 8), by omega⟩
      rw [v78_eq] at w
      refine Eq.trans (congrArg (fun k => val_main_v84 x0 x1 x2 x3 x4 x5 (ix3 b p k)) (Fin.ext ?_)) (w.trans ?_)
      · show 1024 + e.val = 1024 + (e.val / 128 * 128 + e.val / 64 % 2 * 64 + (8 + (e.val % 64 - 8)))
        omega
      have e0 : (⟨3072 + (e.val / 128 * 128 + e.val / 64 % 2 * 64 + (8 + (e.val % 64 - 8))), by omega⟩ : Fin 7168) = ⟨3072 + e.val, by omega⟩ := Fin.ext (by show 3072 + (e.val / 128 * 128 + e.val / 64 % 2 * 64 + (8 + (e.val % 64 - 8))) = 3072 + e.val; omega)
      have e1 : (⟨3072 + (e.val / 128 * 128 + e.val / 64 % 2 * 64 + (e.val % 64 - 8)), by omega⟩ : Fin 7168) = ⟨3072 + (e.val - 8), by omega⟩ :=
        Fin.ext (by show 3072 + (e.val / 128 * 128 + e.val / 64 % 2 * 64 + (e.val % 64 - 8)) = 3072 + (e.val - 8); omega)
      rw [e0, e1]
    · rw [dif_neg h1]
      have w := key2_eq x0 x1 x2 x3 x4 x5 b p ⟨e.val / 128, by omega⟩ ⟨e.val / 64 % 2, by omega⟩ ⟨(e.val % 64 - 16), by omega⟩
      refine Eq.trans (congrArg (fun k => val_main_v84 x0 x1 x2 x3 x4 x5 (ix3 b p k)) (Fin.ext ?_)) (w.trans ?_)
      · show 1024 + e.val = 1024 + (e.val / 128 * 128 + e.val / 64 % 2 * 64 + (16 + (e.val % 64 - 16)))
        omega
      have e0 : (⟨3072 + (e.val / 128 * 128 + e.val / 64 % 2 * 64 + (16 + (e.val % 64 - 16))), by omega⟩ : Fin 7168) = ⟨3072 + e.val, by omega⟩ := Fin.ext (by show 3072 + (e.val / 128 * 128 + e.val / 64 % 2 * 64 + (16 + (e.val % 64 - 16))) = 3072 + e.val; omega)
      rw [e0]

set_option maxHeartbeats 1600000 in
/-- The result at a column of the values: the projection's column. -/
theorem value_eq (b : Fin 16) (p : Fin 2048) (e : Fin 1024) :
    val_main_v84 x0 x1 x2 x3 x4 x5 (ix3 b p ⟨2048 + e.val, by omega⟩) = col x0 x1 x2 x3 x5 b p ⟨4096 + e.val, by omega⟩ := by
  have w := v43_eq x0 x1 x2 x3 x5 b p ⟨4096 + e.val, by omega⟩
  pointwise [Cert.InBsRefIdeal.Read.val_main_v47, Cert.InBsRefIdeal.Read.val_main_v83, Cert.InBsRefIdeal.Read.val_main_v84]
  refine (dif_neg (by omega)).trans ((dif_neg (by omega)).trans (Eq.trans ?_ w))
  exact congrArg (fun k => val_main_v43 x0 x1 x2 x3 x5 (ix3 b p k)) (Fin.ext (by show 4096 + (2048 + e.val - 1024 - 1024) = 4096 + e.val; omega))

end Cert.InBsRef

end
-- ==== Proof.InBsKer.lean ====
module

public import proofs.«01_k».proof.Proof.FfnMath
public import proofs.«01_k».proof.Proof.Gen.InBsIdeal.Frame
public import Idealize.ShloMosaic.Lib.Pipeline.ValueKit
public import Idealize.ShloMosaic.Lib.Pointwise

@[expose] public section

set_option maxRecDepth 16384

noncomputable section

namespace Cert.InBsIdeal.Hand

open Idealize.ShloMosaic Idealize.ShloMosaic.TcCoe Idealize.SL.Sem
open Idealize.ShloMosaic.Pipeline (Dat)
open Cert.InBsIdeal Cert.InBsIdeal.Gen Cert.FfnMath

set_option maxHeartbeats 1600000 in
/-- The rows of a tile, normalized and modulated. -/
theorem pay10_eq (x : Vec Ideal S1x1024x1024 .f32) (g : Vec Ideal S1x1024 .f32) (sc sh : Vec Ideal S1x1x1024 .f32) (r j : Fin 1024) :
    k0_pay10 x g sc sh (ix2 r j)
      = mrow (fun d => x (ix3 0 r d)) (fun d => g (ix2 0 d)) (fun d => sc (ix3 0 0 d)) (fun d => sh (ix3 0 0 d)) j := by
  pointwise [k0_pay10, mrow, nrm, rms]

/-- The projection of a tile. -/
theorem pay2_eq (h w : Vec Ideal S1024x1024 .bf16) (r e : Fin 1024) :
    k0_pay2 h w (ix2 r e) = ∑ j : Fin 1024, h (ix2 r j) * w (ix2 j e) := by
  pointwise [k0_pay2]

/-- The projection of a tile of values, as it is stored. -/
theorem pay9_eq (h w : Vec Ideal S1024x1024 .bf16) (r e : Fin 1024) :
    k0_pay9 h w (ix3 0 r e) = ∑ j : Fin 1024, h (ix2 r j) * w (ix2 j e) := by
  pointwise [k0_pay9, k0_pay2]

set_option maxHeartbeats 1600000 in
/-- A lane's place in its head half. -/
theorem pay14_eq (r : Fin 1024) (l : Fin 128) : k0_pay14 (ix2 r l) = BitVec.ofNat 32 (l.val % 64) := by
  pointwise [k0_pay14]
  clear r
  revert l
  decide +kernel

/-- A lane among the first sixteen. -/
theorem below16 : ∀ l : Fin 128, IntOp.cmpi CmpIPredicate.slt (BitVec.ofNat 32 (l.val % 64)) 16#32 = if l.val % 64 < 16 then 1#1 else 0#1 := by
  decide +kernel

/-- A lane among the first eight. -/
theorem below8 : ∀ l : Fin 128, IntOp.cmpi CmpIPredicate.slt (BitVec.ofNat 32 (l.val % 64)) 8#32 = if l.val % 64 < 8 then 1#1 else 0#1 := by
  decide +kernel

/-- A lane among the second eight. -/
theorem second8 : ∀ l : Fin 128, IntOp.andi (IntOp.cmpi CmpIPredicate.sge (BitVec.ofNat 32 (l.val % 64)) 8#32) (IntOp.cmpi CmpIPredicate.slt (BitVec.ofNat 32 (l.val % 64)) 16#32)
    = if 8 ≤ l.val % 64 ∧ l.val % 64 < 16 then 1#1 else 0#1 := by
  decide +kernel

/-- The selection by a decided condition. -/
theorem pick (p : Prop) [Decidable p] (a b : EReal) : Scalar.select (if p then 1#1 else 0#1) a b = if p then a else b := by
  by_cases h : p
  · rw [if_pos h, if_pos h]
    rfl
  · rw [if_neg h, if_neg h]
    rfl

set_option maxHeartbeats 1600000 in
/-- The table of cosines. -/
theorem ct_eq (pos : Vec Ideal S1x1024x128 .f32) (invf : Vec Ideal S1x128 .f32) (r : Fin 1024) (l : Fin 128) :
    k0_pay15 (k0_pay12 pos invf) (ix2 r l) = if l.val % 64 < 16 then Ideal.cos (pos (ix3 0 r l) * invf (ix2 0 l)) else 1 := by
  have h := pay14_eq r l
  pointwise [k0_pay15, k0_pay12, k0_pay11]
  rw [h, below16 l]
  exact pick _ _ _

set_option maxHeartbeats 1600000 in
/-- The table of the first sines. -/
theorem sa_eq (pos : Vec Ideal S1x1024x128 .f32) (invf : Vec Ideal S1x128 .f32) (r : Fin 1024) (l : Fin 128) :
    k0_pay16 (k0_pay11 pos invf) (ix2 r l) = if l.val % 64 < 8 then 0 - Ideal.sin (pos (ix3 0 r l) * invf (ix2 0 l)) else 0 := by
  have h := pay14_eq r l
  pointwise [k0_pay16, k0_pay13, k0_pay11]
  rw [h, below8 l]
  exact pick _ _ _

set_option maxHeartbeats 1600000 in
/-- The table of the second sines. -/
theorem sb_eq (pos : Vec Ideal S1x1024x128 .f32) (invf : Vec Ideal S1x128 .f32) (r : Fin 1024) (l : Fin 128) :
    k0_pay1 (k0_pay13 (k0_pay11 pos invf)) k0_pay17 k0_pay18 (ix2 r l) = if 8 ≤ l.val % 64 ∧ l.val % 64 < 16 then Ideal.sin (pos (ix3 0 r l) * invf (ix2 0 l)) else 0 := by
  have h := pay14_eq r l
  pointwise [k0_pay1, k0_pay17, k0_pay18, k0_pay13, k0_pay11]
  rw [h, second8 l]
  exact pick _ _ _

set_option maxHeartbeats 1600000 in
/-- A query tile's lanes from column 0 on. -/
theorem qpiece0 (v6 : FVec Ideal S1024x1024 .f32) (ct sa sb : Vec Ideal S1024x128 .f32) (r : Fin 1024) (l : Fin 128) :
    k0_pay19 v6 ct sa sb (ix3 0 r l)
      = (v6 (ix2 r ⟨l.val, by omega⟩) * ct (ix2 r l) + v6 (ix2 r ⟨(l.val + 128 - 120) % 128, by omega⟩) * sa (ix2 r l)
        + v6 (ix2 r ⟨(l.val + 128 - 8) % 128, by omega⟩) * sb (ix2 r l)) * Ideal.ofBits FTy.f32 1040187392#32 := by
  pointwise [k0_pay19]

set_option maxHeartbeats 1600000 in
/-- A query tile's lanes from column 128 on. -/
theorem qpiece1 (v6 : FVec Ideal S1024x1024 .f32) (ct sa sb : Vec Ideal S1024x128 .f32) (r : Fin 1024) (l : Fin 128) :
    k0_pay20 v6 ct sa sb (ix3 0 r l)
      = (v6 (ix2 r ⟨128 + l.val, by omega⟩) * ct (ix2 r l) + v6 (ix2 r ⟨128 + (l.val + 128 - 120) % 128, by omega⟩) * sa (ix2 r l)
        + v6 (ix2 r ⟨128 + (l.val + 128 - 8) % 128, by omega⟩) * sb (ix2 r l)) * Ideal.ofBits FTy.f32 1040187392#32 := by
  pointwise [k0_pay20]

set_option maxHeartbeats 1600000 in
/-- A query tile's lanes from column 256 on. -/
theorem qpiece2 (v6 : FVec Ideal S1024x1024 .f32) (ct sa sb : Vec Ideal S1024x128 .f32) (r : Fin 1024) (l : Fin 128) :
    k0_pay24 (k0_pay22 v6 ct sa) (k0_pay23 v6 sb) (ix3 0 r l)
      = (v6 (ix2 r ⟨256 + l.val, by omega⟩) * ct (ix2 r l) + v6 (ix2 r ⟨256 + (l.val + 128 - 120) % 128, by omega⟩) * sa (ix2 r l)
        + v6 (ix2 r ⟨256 + (l.val + 128 - 8) % 128, by omega⟩) * sb (ix2 r l)) * Ideal.ofBits FTy.f32 1040187392#32 := by
  pointwise [k0_pay24, k0_pay22, k0_pay23, k0_pay21]

set_option maxHeartbeats 1600000 in
/-- A query tile's lanes from column 384 on. -/
theorem qpiece3 (v6 : FVec Ideal S1024x1024 .f32) (ct sa sb : Vec Ideal S1024x128 .f32) (r : Fin 1024) (l : Fin 128) :
    k0_pay25 v6 ct sa sb (ix3 0 r l)
      = (v6 (ix2 r ⟨384 + l.val, by omega⟩) * ct (ix2 r l) + v6 (ix2 r ⟨384 + (l.val + 128 - 120) % 128, by omega⟩) * sa (ix2 r l)
        + v6 (ix2 r ⟨384 + (l.val + 128 - 8) % 128, by omega⟩) * sb (ix2 r l)) * Ideal.ofBits FTy.f32 1040187392#32 := by
  pointwise [k0_pay25]

set_option maxHeartbeats 1600000 in
/-- A query tile's lanes from column 512 on. -/
theorem qpiece4 (v6 : FVec Ideal S1024x1024 .f32) (ct sa sb : Vec Ideal S1024x128 .f32) (r : Fin 1024) (l : Fin 128) :
    k0_pay26 v6 ct sa sb (ix3 0 r l)
      = (v6 (ix2 r ⟨512 + l.val, by omega⟩) * ct (ix2 r l) + v6 (ix2 r ⟨512 + (l.val + 128 - 120) % 128, by omega⟩) * sa (ix2 r l)
        + v6 (ix2 r ⟨512 + (l.val + 128 - 8) % 128, by omega⟩) * sb (ix2 r l)) * Ideal.ofBits FTy.f32 1040187392#32 := by
  pointwise [k0_pay26]

set_option maxHeartbeats 1600000 in
/-- A query tile's lanes from column 640 on. -/
theorem qpiece5 (v6 : FVec Ideal S1024x1024 .f32) (ct sa sb : Vec Ideal S1024x128 .f32) (r : Fin 1024) (l : Fin 128) :
    k0_pay3 sb (k0_pay27 v6) (k0_pay28 v6 ct sa) (ix3 0 r l)
      = (v6 (ix2 r ⟨640 + l.val, by omega⟩) * ct (ix2 r l) + v6 (ix2 r ⟨640 + (l.val + 128 - 120) % 128, by omega⟩) * sa (ix2 r l)
        + v6 (ix2 r ⟨640 + (l.val + 128 - 8) % 128, by omega⟩) * sb (ix2 r l)) * Ideal.ofBits FTy.f32 1040187392#32 := by
  pointwise [k0_pay3, k0_pay27, k0_pay28]

set_option maxHeartbeats 1600000 in
/-- A query tile's lanes from column 768 on. -/
theorem qpiece6 (v3 v4 : Vec Ideal S1024x1024 .bf16) (ct sa sb : Vec Ideal S1024x128 .f32) (r : Fin 1024) (l : Fin 128) :
    k0_pay4 v3 v4 ct sa sb (ix3 0 r l)
      = ((k0_pay2 v3 v4) (ix2 r ⟨768 + l.val, by omega⟩) * ct (ix2 r l) + (k0_pay2 v3 v4) (ix2 r ⟨768 + (l.val + 128 - 120) % 128, by omega⟩) * sa (ix2 r l)
        + (k0_pay2 v3 v4) (ix2 r ⟨768 + (l.val + 128 - 8) % 128, by omega⟩) * sb (ix2 r l)) * Ideal.ofBits FTy.f32 1040187392#32 := by
  pointwise [k0_pay4]

set_option maxHeartbeats 1600000 in
/-- A query tile's lanes from column 896 on. -/
theorem qpiece7 (v3 v4 : Vec Ideal S1024x1024 .bf16) (ct sa sb : Vec Ideal S1024x128 .f32) (r : Fin 1024) (l : Fin 128) :
    k0_pay5 v3 v4 ct sa sb (ix3 0 r l)
      = ((k0_pay2 v3 v4) (ix2 r ⟨896 + l.val, by omega⟩) * ct (ix2 r l) + (k0_pay2 v3 v4) (ix2 r ⟨896 + (l.val + 128 - 120) % 128, by omega⟩) * sa (ix2 r l)
        + (k0_pay2 v3 v4) (ix2 r ⟨896 + (l.val + 128 - 8) % 128, by omega⟩) * sb (ix2 r l)) * Ideal.ofBits FTy.f32 1040187392#32 := by
  pointwise [k0_pay5]

set_option maxHeartbeats 1600000 in
/-- A key tile's lanes from column 0 on. -/
theorem kpiece0 (v6 : FVec Ideal S1024x1024 .f32) (ct sa sb : Vec Ideal S1024x128 .f32) (r : Fin 1024) (l : Fin 128) :
    k0_pay29 v6 ct sa sb (ix3 0 r l)
      = (v6 (ix2 r ⟨l.val, by omega⟩) * ct (ix2 r l) + v6 (ix2 r ⟨(l.val + 128 - 120) % 128, by omega⟩) * sa (ix2 r l)
        + v6 (ix2 r ⟨(l.val + 128 - 8) % 128, by omega⟩) * sb (ix2 r l)) * Ideal.ofBits FTy.f32 1065353216#32 := by
  pointwise [k0_pay29]

set_option maxHeartbeats 1600000 in
/-- A key tile's lanes from column 128 on. -/
theorem kpiece1 (v6 : FVec Ideal S1024x1024 .f32) (ct sa sb : Vec Ideal S1024x128 .f32) (r : Fin 1024) (l : Fin 128) :
    k0_pay30 v6 ct sa sb (ix3 0 r l)
      = (v6 (ix2 r ⟨128 + l.val, by omega⟩) * ct (ix2 r l) + v6 (ix2 r ⟨128 + (l.val + 128 - 120) % 128, by omega⟩) * sa (ix2 r l)
        + v6 (ix2 r ⟨128 + (l.val + 128 - 8) % 128, by omega⟩) * sb (ix2 r l)) * Ideal.ofBits FTy.f32 1065353216#32 := by
  pointwise [k0_pay30]

set_option maxHeartbeats 1600000 in
/-- A key tile's lanes from column 256 on. -/
theorem kpiece2 (v6 : FVec Ideal S1024x1024 .f32) (ct sa sb : Vec Ideal S1024x128 .f32) (r : Fin 1024) (l : Fin 128) :
    k0_pay34 (k0_pay32 v6 ct sa) (k0_pay33 v6 sb) (ix3 0 r l)
      = (v6 (ix2 r ⟨256 + l.val, by omega⟩) * ct (ix2 r l) + v6 (ix2 r ⟨256 + (l.val + 128 - 120) % 128, by omega⟩) * sa (ix2 r l)
        + v6 (ix2 r ⟨256 + (l.val + 128 - 8) % 128, by omega⟩) * sb (ix2 r l)) * Ideal.ofBits FTy.f32 1065353216#32 := by
  pointwise [k0_pay34, k0_pay32, k0_pay33, k0_pay31]

set_option maxHeartbeats 1600000 in
/-- A key tile's lanes from column 384 on. -/
theorem kpiece3 (v6 : FVec Ideal S1024x1024 .f32) (ct sa sb : Vec Ideal S1024x128 .f32) (r : Fin 1024) (l : Fin 128) :
    k0_pay35 v6 ct sa sb (ix3 0 r l)
      = (v6 (ix2 r ⟨384 + l.val, by omega⟩) * ct (ix2 r l) + v6 (ix2 r ⟨384 + (l.val + 128 - 120) % 128, by omega⟩) * sa (ix2 r l)
        + v6 (ix2 r ⟨384 + (l.val + 128 - 8) % 128, by omega⟩) * sb (ix2 r l)) * Ideal.ofBits FTy.f32 1065353216#32 := by
  pointwise [k0_pay35]

set_option maxHeartbeats 1600000 in
/-- A key tile's lanes from column 512 on. -/
theorem kpiece4 (v6 : FVec Ideal S1024x1024 .f32) (ct sa sb : Vec Ideal S1024x128 .f32) (r : Fin 1024) (l : Fin 128) :
    k0_pay36 v6 ct sa sb (ix3 0 r l)
      = (v6 (ix2 r ⟨512 + l.val, by omega⟩) * ct (ix2 r l) + v6 (ix2 r ⟨512 + (l.val + 128 - 120) % 128, by omega⟩) * sa (ix2 r l)
        + v6 (ix2 r ⟨512 + (l.val + 128 - 8) % 128, by omega⟩) * sb (ix2 r l)) * Ideal.ofBits FTy.f32 1065353216#32 := by
  pointwise [k0_pay36]

set_option maxHeartbeats 1600000 in
/-- A key tile's lanes from column 640 on. -/
theorem kpiece5 (v6 : FVec Ideal S1024x1024 .f32) (ct sa sb : Vec Ideal S1024x128 .f32) (r : Fin 1024) (l : Fin 128) :
    k0_pay6 sb (k0_pay37 v6) (k0_pay38 v6 ct sa) (ix3 0 r l)
      = (v6 (ix2 r ⟨640 + l.val, by omega⟩) * ct (ix2 r l) + v6 (ix2 r ⟨640 + (l.val + 128 - 120) % 128, by omega⟩) * sa (ix2 r l)
        + v6 (ix2 r ⟨640 + (l.val + 128 - 8) % 128, by omega⟩) * sb (ix2 r l)) * Ideal.ofBits FTy.f32 1065353216#32 := by
  pointwise [k0_pay6, k0_pay37, k0_pay38]

set_option maxHeartbeats 1600000 in
/-- A key tile's lanes from column 768 on. -/
theorem kpiece6 (v3 v4 : Vec Ideal S1024x1024 .bf16) (ct sa sb : Vec Ideal S1024x128 .f32) (r : Fin 1024) (l : Fin 128) :
    k0_pay7 v3 v4 ct sa sb (ix3 0 r l)
      = ((k0_pay2 v3 v4) (ix2 r ⟨768 + l.val, by omega⟩) * ct (ix2 r l) + (k0_pay2 v3 v4) (ix2 r ⟨768 + (l.val + 128 - 120) % 128, by omega⟩) * sa (ix2 r l)
        + (k0_pay2 v3 v4) (ix2 r ⟨768 + (l.val + 128 - 8) % 128, by omega⟩) * sb (ix2 r l)) * Ideal.ofBits FTy.f32 1065353216#32 := by
  pointwise [k0_pay7]

set_option maxHeartbeats 1600000 in
/-- A key tile's lanes from column 896 on. -/
theorem kpiece7 (v3 v4 : Vec Ideal S1024x1024 .bf16) (ct sa sb : Vec Ideal S1024x128 .f32) (r : Fin 1024) (l : Fin 128) :
    k0_pay8 v3 v4 ct sa sb (ix3 0 r l)
      = ((k0_pay2 v3 v4) (ix2 r ⟨896 + l.val, by omega⟩) * ct (ix2 r l) + (k0_pay2 v3 v4) (ix2 r ⟨896 + (l.val + 128 - 120) % 128, by omega⟩) * sa (ix2 r l)
        + (k0_pay2 v3 v4) (ix2 r ⟨896 + (l.val + 128 - 8) % 128, by omega⟩) * sb (ix2 r l)) * Ideal.ofBits FTy.f32 1065353216#32 := by
  pointwise [k0_pay8]

end Cert.InBsIdeal.Hand

end
-- ==== Proof.InBsHost.lean ====
module

public import proofs.«01_k».proof.Proof.InBsRef
public import proofs.«01_k».proof.Proof.InBsKer
public import Idealize.ShloMosaic.Lib.Pipeline.ValueKit
public import Idealize.ShloMosaic.Lib.Pointwise

@[expose] public section

set_option maxRecDepth 16384

noncomputable section

namespace Cert.InBsIdeal.Hand

open Idealize.ShloMosaic Idealize.ShloMosaic.TcCoe Idealize.SL.Sem
open Idealize.ShloMosaic.Pipeline (Dat)
open Cert.InBsIdeal Cert.InBsIdeal.Gen Cert.FfnMath Cert.InBsRef

variable (m : (ℓ : Loc nD τ sig) → Buf (Elt Ideal) ℓ)

/-- Each window's block index as a closed form of the grid point. -/
theorem idx : ∀ t : Fin cfg0.N,
    win0_0.index t = ![t.val / 6, t.val / 3 % 2, 0] ∧ win0_1.index t = ![0, 0] ∧ win0_2.index t = ![t.val / 6, 0, 0]
    ∧ win0_3.index t = ![t.val / 6, 0, 0] ∧ win0_4.index t = ![t.val / 6, t.val / 3 % 2, 0] ∧ win0_5.index t = ![0, 0]
    ∧ win0_6.index t = ![0, t.val % 3] ∧ win0_7.index t = ![t.val / 6, t.val / 3 % 2, t.val % 3] :=
  (by decide +kernel : ∀ t : Fin grid0.N, _)

set_option maxHeartbeats 1600000 in
/-- The tile of tokens. -/
theorem here (c : Dev nD) (t : Fin cfg0.N) (r d : Fin 1024) (b : Fin 16) (p : Fin 2048) (hb : b.val = t.val / 6) (hp : p.val = t.val / 3 % 2 * 1024 + r.val) :
    (iblk m c 0 t : Vec Ideal S1x1024x1024 .f32) (ix3 0 r d) = (m ((c : Thread nD τ).loc main_arg0) : Vec Ideal S16x2048x1024 .f32) (ix3 b p d) := by
  blk_point [iblk, V, idx t, hb, hp]

set_option maxHeartbeats 1600000 in
/-- The gain of the norm. -/
theorem gain (c : Dev nD) (t : Fin cfg0.N) (d : Fin 1024) :
    (iblk m c 1 t : Vec Ideal S1x1024 .f32) (ix2 0 d) = (m ((c : Thread nD τ).loc main_arg1) : Vec Ideal S1x1024 .f32) (ix2 0 d) := by
  have he : ((cfg0.win 1).blk t).view.emb (ix2 0 d) = ix2 0 d := by
    blk_ext [idx t]
  show (V m c main_v20 : Vec Ideal S1x1024 .f32) (((cfg0.win 1).blk t).view.emb (ix2 0 d)) = _
  rw [he]
  entry_read
  pointwise

set_option maxHeartbeats 1600000 in
/-- The modulation scale. -/
theorem scale (c : Dev nD) (t : Fin cfg0.N) (d : Fin 1024) (b : Fin 16) (hb : b.val = t.val / 6) :
    (iblk m c 2 t : Vec Ideal S1x1x1024 .f32) (ix3 0 0 d) = (m ((c : Thread nD τ).loc main_arg2) : Vec Ideal S16x1024 .f32) (ix2 b d) := by
  have he : ((cfg0.win 2).blk t).view.emb (ix3 0 0 d) = ix3 b 0 d := by
    blk_ext [idx t, hb]
  show (V m c main_v22 : Vec Ideal S16x1x1024 .f32) (((cfg0.win 2).blk t).view.emb (ix3 0 0 d)) = _
  rw [he]
  entry_read
  pointwise

set_option maxHeartbeats 1600000 in
/-- The modulation shift. -/
theorem shift (c : Dev nD) (t : Fin cfg0.N) (d : Fin 1024) (b : Fin 16) (hb : b.val = t.val / 6) :
    (iblk m c 3 t : Vec Ideal S1x1x1024 .f32) (ix3 0 0 d) = (m ((c : Thread nD τ).loc main_arg3) : Vec Ideal S16x1024 .f32) (ix2 b d) := by
  have he : ((cfg0.win 3).blk t).view.emb (ix3 0 0 d) = ix3 b 0 d := by
    blk_ext [idx t, hb]
  show (V m c main_v23 : Vec Ideal S16x1x1024 .f32) (((cfg0.win 3).blk t).view.emb (ix3 0 0 d)) = _
  rw [he]
  entry_read
  pointwise

set_option maxHeartbeats 1600000 in
/-- The tokens' positions. -/
theorem place (c : Dev nD) (t : Fin cfg0.N) (r : Fin 1024) (l : Fin 128) (b : Fin 16) (p : Fin 2048) (hb : b.val = t.val / 6) (hp : p.val = t.val / 3 % 2 * 1024 + r.val) :
    (iblk m c 4 t : Vec Ideal S1x1024x128 .f32) (ix3 0 r l) = Cert.InBsRefIdeal.Read.val_main_v10 (F := Ideal) (m ((c : Thread nD τ).loc main_arg4)) (ix2 b p) := by
  have he : ((cfg0.win 4).blk t).view.emb (ix3 0 r l) = ix3 b p l := by
    blk_ext [idx t, hb, hp]
  show (V m c main_v2 : Vec Ideal S16x2048x128 .f32) (((cfg0.win 4).blk t).view.emb (ix3 0 r l)) = _
  rw [he]
  entry_read
  pointwise [Cert.InBsRefIdeal.Read.val_main_v10]

set_option maxHeartbeats 1600000 in
/-- The lanes' frequencies. -/
theorem frequency (c : Dev nD) (t : Fin cfg0.N) (l : Fin 128) :
    (iblk m c 5 t : Vec Ideal S1x128 .f32) (ix2 0 l) = Cert.InBsRefIdeal.Read.val_main_v9 (F := Ideal) (ix1 ⟨l.val % 8, by omega⟩) := by
  have he : ((cfg0.win 5).blk t).view.emb (ix2 0 l) = ix2 0 l := by
    blk_ext [idx t]
  show (V m c main_v16 : Vec Ideal S1x128 .f32) (((cfg0.win 5).blk t).view.emb (ix2 0 l)) = _
  rw [he]
  entry_read
  pointwise [Cert.InBsRefIdeal.Read.val_main_v0, Cert.InBsRefIdeal.Read.val_main_cst, Cert.InBsRefIdeal.Read.val_main_v1, Cert.InBsRefIdeal.Read.val_main_v2, Cert.InBsRefIdeal.Read.val_main_cst_0, Cert.InBsRefIdeal.Read.val_main_v3, Cert.InBsRefIdeal.Read.val_main_v4, Cert.InBsRefIdeal.Read.val_main_v5, Cert.InBsRefIdeal.Read.val_main_cst_1, Cert.InBsRefIdeal.Read.val_main_v6, Cert.InBsRefIdeal.Read.val_main_v7, Cert.InBsRefIdeal.Read.val_main_cst_2, Cert.InBsRefIdeal.Read.val_main_v8, Cert.InBsRefIdeal.Read.val_main_v9]

set_option maxHeartbeats 1600000 in
/-- The weights of a tile of columns. -/
theorem weight (c : Dev nD) (t : Fin cfg0.N) (j e : Fin 1024) (q : Fin 7168) (hq : q.val = 2048 + (t.val % 3 * 1024 + e.val)) :
    (iblk m c 6 t : Vec Ideal S1024x1024 .bf16) (ix2 j e) = (m ((c : Thread nD τ).loc main_arg5) : Vec Ideal S1x1024x7168 .f32) (ix3 0 j q) := by
  have he : ((cfg0.win 6).blk t).view.emb (ix2 j e) = ix2 j ⟨t.val % 3 * 1024 + e.val, by omega⟩ := by
    blk_ext [idx t]
  show (V m c main_v21 : Vec Ideal S1024x3072 .bf16) (((cfg0.win 6).blk t).view.emb (ix2 j e)) = _
  rw [he]
  entry_read
  pointwise
  exact congrArg (fun k => (m ((c : Thread nD τ).loc main_arg5) : Vec Ideal S1x1024x7168 .f32) (ix3 0 j k)) (Fin.ext hq.symm)

end Cert.InBsIdeal.Hand

end
-- ==== Proof.InBs.lean ====
module

public import proofs.«01_k».proof.Proof.InBsHost
public import Idealize.ShloMosaic.Lib.Pipeline.ReadBack
public import Idealize.ShloMosaic.Lib.Pipeline.ValueKit
public import Idealize.ShloMosaic.Lib.Pointwise

@[expose] public section

set_option maxRecDepth 16384

noncomputable section

namespace Cert.InBsIdeal.Hand

open Idealize.ShloMosaic Idealize.ShloMosaic.TcCoe Idealize.SL.Sem
open Idealize.ShloMosaic.Pipeline (Dat)
open Cert.InBsIdeal Cert.InBsIdeal.Gen Cert.FfnMath Cert.InBsRef

/-- The three products over a row and the tables are the rotation of the row. -/
theorem whirl (u : Fin 1024 → EReal) (a : Fin 8 → EReal) (e q s : Fin 1024) (o : ℕ) (l : Fin 128) (ho : o % 128 = 0)
    (he : e.val = o + l.val) (hq : q.val = o + (l.val + 128 - 120) % 128) (hs : s.val = o + (l.val + 128 - 8) % 128)
    (ct sa sb : EReal) (hc : ct = if l.val % 64 < 16 then Ideal.cos (a ⟨l.val % 8, by omega⟩) else 1)
    (ha : sa = if l.val % 64 < 8 then 0 - Ideal.sin (a ⟨l.val % 8, by omega⟩) else 0)
    (hb : sb = if 8 ≤ l.val % 64 ∧ l.val % 64 < 16 then Ideal.sin (a ⟨l.val % 8, by omega⟩) else 0) :
    u e * ct + u q * sa + u s * sb = turn u a e := by
  subst hc ha hb
  unfold turn
  by_cases h0 : l.val % 64 < 8
  · rw [if_pos (by omega), if_pos h0, if_neg (by omega), dif_pos (by omega), mul_zero, add_zero, zero_sub, mul_neg, ← sub_eq_add_neg]
    rw [show q = ⟨e.val + 8, by omega⟩ from Fin.ext (by show q.val = e.val + 8; omega),
      show (⟨l.val % 8, by omega⟩ : Fin 8) = ⟨e.val % 64, by omega⟩ from Fin.ext (by show l.val % 8 = e.val % 64; omega)]
  · rw [if_neg h0, dif_neg (by omega), mul_zero, add_zero]
    by_cases h1 : l.val % 64 < 16
    · rw [if_pos h1, if_pos (by omega), dif_pos (by omega)]
      rw [show s = ⟨e.val - 8, by omega⟩ from Fin.ext (by show s.val = e.val - 8; omega),
        show (⟨l.val % 8, by omega⟩ : Fin 8) = ⟨e.val % 64 - 8, by omega⟩ from Fin.ext (by show l.val % 8 = e.val % 64 - 8; omega)]
    · rw [if_neg h1, if_neg (by omega), dif_neg (by omega), mul_one, mul_zero, add_zero]

variable (m : (ℓ : Loc nD τ sig) → Buf (Elt Ideal) ℓ)

/-- The scratch holds the features and the tables of the tile of tokens of point `n`. -/
def Good (c : Dev nD) (n : ℕ) (T : Vec Ideal S1024x1024 .bf16 × Vec Ideal S1024x128 .f32 × Vec Ideal S1024x128 .f32 × Vec Ideal S1024x128 .f32) : Prop :=
  ∀ (r : Fin 1024) (b : Fin 16) (p : Fin 2048), b.val = n / 6 → p.val = n / 3 % 2 * 1024 + r.val →
    (∀ j : Fin 1024, T.1 (ix2 r j) = feat (m ((c : Thread nD τ).loc main_arg0)) (m ((c : Thread nD τ).loc main_arg1)) (m ((c : Thread nD τ).loc main_arg2)) (m ((c : Thread nD τ).loc main_arg3)) b p j)
    ∧ ∀ l : Fin 128, (T.2.1 (ix2 r l) = if l.val % 64 < 16 then Ideal.cos (ang (m ((c : Thread nD τ).loc main_arg4)) b p ⟨l.val % 8, by omega⟩) else 1)
      ∧ (T.2.2.1 (ix2 r l) = if l.val % 64 < 8 then 0 - Ideal.sin (ang (m ((c : Thread nD τ).loc main_arg4)) b p ⟨l.val % 8, by omega⟩) else 0)
      ∧ T.2.2.2 (ix2 r l) = if 8 ≤ l.val % 64 ∧ l.val % 64 < 16 then Ideal.sin (ang (m ((c : Thread nD τ).loc main_arg4)) b p ⟨l.val % 8, by omega⟩) else 0

/-- The features and tables a point computes. -/
abbrev made (c : Dev nD) (t : Fin cfg0.N) : Vec Ideal S1024x1024 .bf16 × Vec Ideal S1024x128 .f32 × Vec Ideal S1024x128 .f32 × Vec Ideal S1024x128 .f32 :=
  (k0_pay10 (iblk m c 0 t) (iblk m c 1 t) (iblk m c 2 t) (iblk m c 3 t), k0_pay15 (k0_pay12 (iblk m c 4 t) (iblk m c 5 t)),
    k0_pay16 (k0_pay11 (iblk m c 4 t) (iblk m c 5 t)), k0_pay1 (k0_pay13 (k0_pay11 (iblk m c 4 t) (iblk m c 5 t))) k0_pay17 k0_pay18)

set_option maxHeartbeats 1600000 in
/-- They are those of the point's tokens. -/
theorem fresh (c : Dev nD) (t : Fin cfg0.N) : Good m c t.val (made m c t) := by
  intro r b p hb hp
  refine ⟨fun j => ?_, fun l => ⟨?_, ?_, ?_⟩⟩
  · refine (pay10_eq _ _ _ _ r j).trans ?_
    unfold feat
    rw [funext fun d => here m c t r d b p hb hp, funext (gain m c t), funext fun d => scale m c t d b hb, funext fun d => shift m c t d b hb]
  · refine (ct_eq _ _ r l).trans ?_
    rw [place m c t r l b p hb hp, frequency m c t l]
    rfl
  · refine (sa_eq _ _ r l).trans ?_
    rw [place m c t r l b p hb hp, frequency m c t l]
    rfl
  · refine (sb_eq _ _ r l).trans ?_
    rw [place m c t r l b p hb hp, frequency m c t l]
    rfl

set_option maxHeartbeats 1600000 in
/-- The first point of a tile of tokens leaves them in the scratch. -/
theorem make (c : Dev nD) (t : Fin cfg0.N) (h : t.val % 3 = 0) : (outsAt0 m c t.val t.isLt).2 = made m c t := by
  rw [outsAt0_A m c t h h (by omega) (by omega)]
  refine Prod.ext ?_ (Prod.ext ?_ (Prod.ext ?_ ?_))
  · funext y
    frame_out
  · funext y
    frame_out
  · funext y
    frame_out
  · funext y
    frame_out

set_option maxHeartbeats 1600000 in
/-- The other points leave the scratch as it was. -/
theorem keep (c : Dev nD) (t : Fin cfg0.N) (h : ¬t.val % 3 = 0) :
    (outsAt0 m c t.val t.isLt).2 = (outsAt0 m c (t.val - 1) (Nat.lt_of_le_of_lt (Nat.sub_le _ _) t.isLt)).2 := by
  by_cases h1 : t.val % 3 = 1
  · rw [outsAt0_B m c t h h h1 (by omega)]
    rfl
  · rw [outsAt0_C m c t h h h1 (by omega)]
    rfl

/-- After every point the scratch holds what belongs to the point's tokens. -/
theorem held (c : Dev nD) (n : ℕ) (hn : n < cfg0.N) : Good m c n (outsAt0 m c n hn).2 := by
  induction n with
  | zero =>
    have w := make m c ⟨0, hn⟩ rfl
    exact w ▸ fresh m c ⟨0, hn⟩
  | succ n ih =>
    by_cases h : (n + 1) % 3 = 0
    · have w := make m c ⟨n + 1, hn⟩ h
      exact w ▸ fresh m c ⟨n + 1, hn⟩
    · have w := keep m c ⟨n + 1, hn⟩ h
      refine w ▸ ?_
      have i := ih (by omega)
      intro r b p hb hp
      exact i r b p (by omega) (by omega)

/-- The reference's result as a function of the kernel's arguments. -/
def REF (x0 : FVec Ideal S16x2048x1024 .f32) (x1 : FVec Ideal S1x1024 .f32) (x2 x3 : FVec Ideal S16x1024 .f32) (x4 : Vec Ideal S16x2048 .i32)
    (x5 : FVec Ideal S1x1024x7168 .f32) : FVec Ideal S16x2048x3072 .bf16 :=
  Cert.InBsRefIdeal.Read.val_main_v84 (F := Ideal) x0 x1 x2 x3 x4 x5

/-- The projection's columns of a tile. -/
abbrev cols (c : Dev nD) (t : Fin cfg0.N) (b : Fin 16) (p : Fin 2048) (k : Fin 1024) : EReal :=
  col (m ((c : Thread nD τ).loc main_arg0)) (m ((c : Thread nD τ).loc main_arg1)) (m ((c : Thread nD τ).loc main_arg2)) (m ((c : Thread nD τ).loc main_arg3)) (m ((c : Thread nD τ).loc main_arg5)) b p ⟨2048 + (t.val % 3 * 1024 + k.val), by omega⟩

set_option maxHeartbeats 1600000 in
/-- The product of the features and the tile's weights gives the projection's columns. -/
theorem proj (c : Dev nD) (t : Fin cfg0.N) (H : Vec Ideal S1024x1024 .bf16) (r e : Fin 1024) (b : Fin 16) (p : Fin 2048)
    (hH : ∀ j : Fin 1024, H (ix2 r j) = feat (m ((c : Thread nD τ).loc main_arg0)) (m ((c : Thread nD τ).loc main_arg1)) (m ((c : Thread nD τ).loc main_arg2)) (m ((c : Thread nD τ).loc main_arg3)) b p j) :
    ∑ j : Fin 1024, H (ix2 r j) * (iblk m c 6 t : Vec Ideal S1024x1024 .bf16) (ix2 j e) = cols m c t b p e := by
  unfold cols col
  refine Finset.sum_congr rfl fun j _ => ?_
  rw [hH j, weight m c t j e ⟨2048 + (t.val % 3 * 1024 + e.val), by omega⟩ rfl]

set_option maxHeartbeats 1600000 in
/-- The three products over the projected row and the tables are the rotation of the projection's columns. -/
theorem mixed (c : Dev nD) (t : Fin cfg0.N) (H : Vec Ideal S1024x1024 .bf16) (C A B : Vec Ideal S1024x128 .f32) (hT : Good m c t.val (H, C, A, B))
    (r e q s : Fin 1024) (o : ℕ) (l : Fin 128) (b : Fin 16) (p : Fin 2048) (hb : b.val = t.val / 6) (hp : p.val = t.val / 3 % 2 * 1024 + r.val)
    (ho : o % 128 = 0) (he : e.val = o + l.val) (hq : q.val = o + (l.val + 128 - 120) % 128) (hs : s.val = o + (l.val + 128 - 8) % 128) :
    k0_pay2 H (iblk m c 6 t) (ix2 r e) * C (ix2 r l) + k0_pay2 H (iblk m c 6 t) (ix2 r q) * A (ix2 r l) + k0_pay2 H (iblk m c 6 t) (ix2 r s) * B (ix2 r l)
      = turn (cols m c t b p) (ang (m ((c : Thread nD τ).loc main_arg4)) b p) e := by
  obtain ⟨hH, hl⟩ := hT r b p hb hp
  obtain ⟨hc, ha, hb'⟩ := hl l
  rw [pay2_eq, pay2_eq, pay2_eq, proj m c t H r e b p hH, proj m c t H r q b p hH, proj m c t H r s b p hH]
  exact whirl _ _ e q s o l ho he hq hs _ _ _ hc ha hb'

set_option maxHeartbeats 1600000 in
/-- What a point leaves for the queries. -/
theorem stored_q (c : Dev nD) (t : Fin cfg0.N) (h : t.val % 3 = 0) (r e : Fin 1024) (b : Fin 16) (p : Fin 2048)
    (hb : b.val = t.val / 6) (hp : p.val = t.val / 3 % 2 * 1024 + r.val) :
    (outsAt0 m c t.val t.isLt).1 (ix3 0 r e) = turn (cols m c t b p) (ang (m ((c : Thread nD τ).loc main_arg4)) b p) e * Ideal.ofBits FTy.f32 1040187392#32 := by
  have hT := fresh m c t
  rw [outsAt0_A m c t h h (by omega) (by omega)]
  frame_out
  canon_tiles x g
  · have g1 : r.val = (x 1).val := g1
    have g2 : e.val = 896 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece7 _ _ _ _ _ r ⟨(x 2).val, x2_lt⟩).trans ?_
    rw [show e = ⟨896 + (x 2).val, by omega⟩ from Fin.ext g2]
    exact congrArg (fun z => z * Ideal.ofBits FTy.f32 1040187392#32) (mixed m c t _ _ _ _ hT r _ _ _ 896 ⟨(x 2).val, x2_lt⟩ b p hb hp rfl rfl rfl rfl)
  · have g1 : r.val = (x 1).val := g1
    have g2 : e.val = 768 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece6 _ _ _ _ _ r ⟨(x 2).val, x2_lt⟩).trans ?_
    rw [show e = ⟨768 + (x 2).val, by omega⟩ from Fin.ext g2]
    exact congrArg (fun z => z * Ideal.ofBits FTy.f32 1040187392#32) (mixed m c t _ _ _ _ hT r _ _ _ 768 ⟨(x 2).val, x2_lt⟩ b p hb hp rfl rfl rfl rfl)
  · have g1 : r.val = (x 1).val := g1
    have g2 : e.val = 640 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece5 _ _ _ _ r ⟨(x 2).val, x2_lt⟩).trans ?_
    rw [show e = ⟨640 + (x 2).val, by omega⟩ from Fin.ext g2]
    exact congrArg (fun z => z * Ideal.ofBits FTy.f32 1040187392#32) (mixed m c t _ _ _ _ hT r _ _ _ 640 ⟨(x 2).val, x2_lt⟩ b p hb hp rfl rfl rfl rfl)
  · have g1 : r.val = (x 1).val := g1
    have g2 : e.val = 512 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece4 _ _ _ _ r ⟨(x 2).val, x2_lt⟩).trans ?_
    rw [show e = ⟨512 + (x 2).val, by omega⟩ from Fin.ext g2]
    exact congrArg (fun z => z * Ideal.ofBits FTy.f32 1040187392#32) (mixed m c t _ _ _ _ hT r _ _ _ 512 ⟨(x 2).val, x2_lt⟩ b p hb hp rfl rfl rfl rfl)
  · have g1 : r.val = (x 1).val := g1
    have g2 : e.val = 384 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece3 _ _ _ _ r ⟨(x 2).val, x2_lt⟩).trans ?_
    rw [show e = ⟨384 + (x 2).val, by omega⟩ from Fin.ext g2]
    exact congrArg (fun z => z * Ideal.ofBits FTy.f32 1040187392#32) (mixed m c t _ _ _ _ hT r _ _ _ 384 ⟨(x 2).val, x2_lt⟩ b p hb hp rfl rfl rfl rfl)
  · have g1 : r.val = (x 1).val := g1
    have g2 : e.val = 256 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece2 _ _ _ _ r ⟨(x 2).val, x2_lt⟩).trans ?_
    rw [show e = ⟨256 + (x 2).val, by omega⟩ from Fin.ext g2]
    exact congrArg (fun z => z * Ideal.ofBits FTy.f32 1040187392#32) (mixed m c t _ _ _ _ hT r _ _ _ 256 ⟨(x 2).val, x2_lt⟩ b p hb hp rfl rfl rfl rfl)
  · have g1 : r.val = (x 1).val := g1
    have g2 : e.val = 128 + (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece1 _ _ _ _ r ⟨(x 2).val, x2_lt⟩).trans ?_
    rw [show e = ⟨128 + (x 2).val, by omega⟩ from Fin.ext g2]
    exact congrArg (fun z => z * Ideal.ofBits FTy.f32 1040187392#32) (mixed m c t _ _ _ _ hT r _ _ _ 128 ⟨(x 2).val, x2_lt⟩ b p hb hp rfl rfl rfl rfl)
  · have g1 : r.val = (x 1).val := g1
    have g2 : e.val = (x 2).val := g2
    have hx : x = ix3 0 r ⟨(x 2).val, x2_lt⟩ := by
      funext a
      fin_cases a
      · exact Fin.ext (by show (x 0).val = 0; omega)
      · exact Fin.ext g1.symm
      · rfl
    rw [hx]
    refine (qpiece0 _ _ _ _ r ⟨(x 2).val, x2_lt⟩).trans ?_
    rw [show e = ⟨(x 2).val, by omega⟩ from Fin.ext g2]
    exact congrArg (fun z => z * Ideal.ofBits FTy.f32 1040187392#32) (mixed m c t _ _ _ _ hT r _ _ _ 0 ⟨(x 2).val, x2_lt⟩ b p hb hp rfl (Nat.zero_add _).symm (Nat.zero_add _).symm (Nat.zero_add _).symm)

set_option maxHeartbeats 1600000 in
/-- What a point leaves for the keys. -/
theorem stored_k (c : Dev nD) (t : Fin cfg0.N) (h : t.val % 3 = 1) (r e : Fin 1024) (b : Fin 16) (p : Fin 2048)
    (hb : b.val = t.val / 6) (hp : p.val = t.val / 3 % 2 * 1024 + r.val) :
    (outsAt0 m c t.val t.isLt).1 (ix3 0 r e) = turn (cols m c t b p) (ang (m ((c : Thread nD τ).loc main_arg4)) b p) e := by
  have hT := held m c t.val t.isLt
  rw [keep m c t (by omega)] at hT
  rw [outsAt0_B m c t (by omega) (by omega) h (by omega)]
  frame_out
  canon_tiles x g
  · have g1 : r.val = (x 1).val := g1
    have g2 : e.val = 896 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece7 _ _ _ _ _ r ⟨(x 2).val, x2_lt⟩).trans ?_
    rw [show e = ⟨896 + (x 2).val, by omega⟩ from Fin.ext g2]
    rw [one_bits, mul_one]
    exact mixed m c t _ _ _ _ hT r _ _ _ 896 ⟨(x 2).val, x2_lt⟩ b p hb hp rfl rfl rfl rfl
  · have g1 : r.val = (x 1).val := g1
    have g2 : e.val = 768 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece6 _ _ _ _ _ r ⟨(x 2).val, x2_lt⟩).trans ?_
    rw [show e = ⟨768 + (x 2).val, by omega⟩ from Fin.ext g2]
    rw [one_bits, mul_one]
    exact mixed m c t _ _ _ _ hT r _ _ _ 768 ⟨(x 2).val, x2_lt⟩ b p hb hp rfl rfl rfl rfl
  · have g1 : r.val = (x 1).val := g1
    have g2 : e.val = 640 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece5 _ _ _ _ r ⟨(x 2).val, x2_lt⟩).trans ?_
    rw [show e = ⟨640 + (x 2).val, by omega⟩ from Fin.ext g2]
    rw [one_bits, mul_one]
    exact mixed m c t _ _ _ _ hT r _ _ _ 640 ⟨(x 2).val, x2_lt⟩ b p hb hp rfl rfl rfl rfl
  · have g1 : r.val = (x 1).val := g1
    have g2 : e.val = 512 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece4 _ _ _ _ r ⟨(x 2).val, x2_lt⟩).trans ?_
    rw [show e = ⟨512 + (x 2).val, by omega⟩ from Fin.ext g2]
    rw [one_bits, mul_one]
    exact mixed m c t _ _ _ _ hT r _ _ _ 512 ⟨(x 2).val, x2_lt⟩ b p hb hp rfl rfl rfl rfl
  · have g1 : r.val = (x 1).val := g1
    have g2 : e.val = 384 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece3 _ _ _ _ r ⟨(x 2).val, x2_lt⟩).trans ?_
    rw [show e = ⟨384 + (x 2).val, by omega⟩ from Fin.ext g2]
    rw [one_bits, mul_one]
    exact mixed m c t _ _ _ _ hT r _ _ _ 384 ⟨(x 2).val, x2_lt⟩ b p hb hp rfl rfl rfl rfl
  · have g1 : r.val = (x 1).val := g1
    have g2 : e.val = 256 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece2 _ _ _ _ r ⟨(x 2).val, x2_lt⟩).trans ?_
    rw [show e = ⟨256 + (x 2).val, by omega⟩ from Fin.ext g2]
    rw [one_bits, mul_one]
    exact mixed m c t _ _ _ _ hT r _ _ _ 256 ⟨(x 2).val, x2_lt⟩ b p hb hp rfl rfl rfl rfl
  · have g1 : r.val = (x 1).val := g1
    have g2 : e.val = 128 + (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece1 _ _ _ _ r ⟨(x 2).val, x2_lt⟩).trans ?_
    rw [show e = ⟨128 + (x 2).val, by omega⟩ from Fin.ext g2]
    rw [one_bits, mul_one]
    exact mixed m c t _ _ _ _ hT r _ _ _ 128 ⟨(x 2).val, x2_lt⟩ b p hb hp rfl rfl rfl rfl
  · have g1 : r.val = (x 1).val := g1
    have g2 : e.val = (x 2).val := g2
    have hx : x = ix3 0 r ⟨(x 2).val, x2_lt⟩ := by
      funext a
      fin_cases a
      · exact Fin.ext (by show (x 0).val = 0; omega)
      · exact Fin.ext g1.symm
      · rfl
    rw [hx]
    rw [read_unread_whole, read_unread_whole, read_unread_whole, read_unread_whole]
    refine (kpiece0 _ _ _ _ r ⟨(x 2).val, x2_lt⟩).trans ?_
    rw [show e = ⟨(x 2).val, by omega⟩ from Fin.ext g2]
    rw [one_bits, mul_one]
    exact mixed m c t _ _ _ _ hT r _ _ _ 0 ⟨(x 2).val, x2_lt⟩ b p hb hp rfl (Nat.zero_add _).symm (Nat.zero_add _).symm (Nat.zero_add _).symm

set_option maxHeartbeats 1600000 in
/-- What a point leaves for the values. -/
theorem stored_v (c : Dev nD) (t : Fin cfg0.N) (h : t.val % 3 = 2) (r e : Fin 1024) (b : Fin 16) (p : Fin 2048)
    (hb : b.val = t.val / 6) (hp : p.val = t.val / 3 % 2 * 1024 + r.val) :
    (outsAt0 m c t.val t.isLt).1 (ix3 0 r e) = cols m c t b p e := by
  have hT := held m c t.val t.isLt
  rw [keep m c t (by omega)] at hT
  rw [outsAt0_C m c t (by omega) (by omega) (by omega) h]
  frame_out
  rw [read_unread_whole]
  exact (pay9_eq _ _ r e).trans (proj m c t _ r e b p (hT r b p hb hp).1)

set_option maxHeartbeats 1600000 in
/-- What a point leaves for the result is the reference's block. -/
theorem stored (c : Dev nD) (t : Fin cfg0.N) (r e : Fin 1024) (b : Fin 16) (p : Fin 2048) (q : Fin 3072)
    (hb : b.val = t.val / 6) (hp : p.val = t.val / 3 % 2 * 1024 + r.val) (hq : q.val = t.val % 3 * 1024 + e.val) :
    (outsAt0 m c t.val t.isLt).1 (ix3 0 r e) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b p q) := by
  by_cases h0 : t.val % 3 = 0
  · refine (stored_q m c t h0 r e b p hb hp).trans ?_
    have w := query_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p e
    rw [show q = ⟨e.val, by omega⟩ from Fin.ext (by show q.val = e.val; omega)]
    refine Eq.trans ?_ w.symm
    refine congrArg (fun u => turn u (ang (m ((c : Thread nD τ).loc main_arg4)) b p) e * Ideal.ofBits FTy.f32 1040187392#32) (funext fun k => ?_)
    exact congrArg (col (m ((c : Thread nD τ).loc main_arg0)) (m ((c : Thread nD τ).loc main_arg1)) (m ((c : Thread nD τ).loc main_arg2)) (m ((c : Thread nD τ).loc main_arg3)) (m ((c : Thread nD τ).loc main_arg5)) b p) (Fin.ext (by show 2048 + (t.val % 3 * 1024 + k.val) = 2048 + k.val; omega))
  · by_cases h1 : t.val % 3 = 1
    · refine (stored_k m c t h1 r e b p hb hp).trans ?_
      have w := key_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p e
      rw [show q = ⟨1024 + e.val, by omega⟩ from Fin.ext (by show q.val = 1024 + e.val; omega)]
      refine Eq.trans ?_ w.symm
      refine congrArg (fun u => turn u (ang (m ((c : Thread nD τ).loc main_arg4)) b p) e) (funext fun k => ?_)
      exact congrArg (col (m ((c : Thread nD τ).loc main_arg0)) (m ((c : Thread nD τ).loc main_arg1)) (m ((c : Thread nD τ).loc main_arg2)) (m ((c : Thread nD τ).loc main_arg3)) (m ((c : Thread nD τ).loc main_arg5)) b p) (Fin.ext (by show 2048 + (t.val % 3 * 1024 + k.val) = 3072 + k.val; omega))
    · refine (stored_v m c t (by omega) r e b p hb hp).trans ?_
      have w := value_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b p e
      rw [show q = ⟨2048 + e.val, by omega⟩ from Fin.ext (by show q.val = 2048 + e.val; omega)]
      refine Eq.trans ?_ w.symm
      exact congrArg (col (m ((c : Thread nD τ).loc main_arg0)) (m ((c : Thread nD τ).loc main_arg1)) (m ((c : Thread nD τ).loc main_arg2)) (m ((c : Thread nD τ).loc main_arg3)) (m ((c : Thread nD τ).loc main_arg5)) b p) (Fin.ext (by show 2048 + (t.val % 3 * 1024 + e.val) = 4096 + e.val; omega))

set_option maxHeartbeats 1600000 in
/-- The result array after the run is the reference's result. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  refine (congrArg (outsAt0 m c t.val t.isLt).1 (show (y : S1x1024x1024.Idx) = ix3 0 (y 1) (y 2) from by
    funext a
    fin_cases a
    · exact Fin.ext (by show (y 0).val = 0; have := (y 0).isLt; change _ < 1 at this; omega)
    · rfl
    · rfl)).trans ?_
  have ht : t.val < 96 := t.isLt
  have hy0 : (y 0).val < 1 := (y 0).isLt
  have hy1 : (y 1).val < 1024 := (y 1).isLt
  have hy2 : (y 2).val < 1024 := (y 2).isLt
  refine (stored m c t (y 1) (y 2) ⟨t.val / 6, by omega⟩ ⟨t.val / 3 % 2 * 1024 + (y 1).val, by omega⟩ ⟨t.val % 3 * 1024 + (y 2).val, by omega⟩ rfl rfl rfl).trans (congrArg (REF _ _ _ _ _ _) ?_)
  blk_ext [idx t]

end Cert.InBsIdeal.Hand

end
-- ==== Proof.Ada.lean ====
module

public import proofs.«01_k».proof.Proof.Gen.AdaIdeal.Frame
public import proofs.«01_k».proof.Proof.Gen.AdaRefIdeal.Read
public import Idealize.ShloMosaic.Lib.Pipeline.ValueKit
public import Idealize.ShloMosaic.Lib.Pointwise

@[expose] public section

set_option maxRecDepth 16384

noncomputable section

namespace Cert.AdaIdeal.Hand

open Idealize.ShloMosaic Idealize.ShloMosaic.TcCoe Idealize.SL.Sem
open Idealize.ShloMosaic.Pipeline (Dat)
open Cert.AdaIdeal Cert.AdaIdeal.Gen

/-- The reference's result at a place: the gated product with the weights, and the bias. -/
theorem ref_eq (x0 : Vec Ideal Cert.AdaRefIdeal.S16x1024 .f32) (x1 : Vec Ideal Cert.AdaRefIdeal.S1x1024x6144 .f32)
    (x2 : Vec Ideal Cert.AdaRefIdeal.S1x6144 .f32) (b : Fin 16) (q : Fin 6144) :
    Cert.AdaRefIdeal.Read.val_main_v6 x0 x1 x2 (ix2 b q)
      = (∑ j : Fin 1024, x0 (ix2 b j) * Ideal.logistic (x0 (ix2 b j)) * x1 (ix3 0 j q)) + x2 (ix2 0 q) := by
  pointwise [Cert.AdaRefIdeal.Read.val_main_call0_v0, Cert.AdaRefIdeal.Read.val_main_call0_v1, Cert.AdaRefIdeal.Read.val_main_call0_cst, Cert.AdaRefIdeal.Read.val_main_call0_v2, Cert.AdaRefIdeal.Read.val_main_call0_v3, Cert.AdaRefIdeal.Read.val_main_call0_cst_0, Cert.AdaRefIdeal.Read.val_main_call0_v4, Cert.AdaRefIdeal.Read.val_main_call0_v5, Cert.AdaRefIdeal.Read.val_main_v0, Cert.AdaRefIdeal.Read.val_main_v1, Cert.AdaRefIdeal.Read.val_main_v2, Cert.AdaRefIdeal.Read.val_main_v3, Cert.AdaRefIdeal.Read.val_main_v4, Cert.AdaRefIdeal.Read.val_main_v5, Cert.AdaRefIdeal.Read.val_main_v6]
  rfl

/-- A tile's result at a place. -/
theorem pay1_eq (x : Vec Ideal S16x1024 .f32) (w : Vec Ideal S1024x1024 .f32) (v : Vec Ideal S1x1024 .f32) (b : Fin 16) (e : Fin 1024) :
    k0_pay1 x w v (ix2 b e) = (∑ j : Fin 1024, x (ix2 b j) * Ideal.logistic (x (ix2 b j)) * w (ix2 j e)) + v (ix2 0 e) := by
  pointwise [k0_pay1]

variable (m : (ℓ : Loc nD τ sig) → Buf (Elt Ideal) ℓ)

/-- Each window's block index as a closed form of the grid point. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- The condition vectors. -/
theorem here (c : Dev nD) (t : Fin cfg0.N) (b : Fin 16) (j : Fin 1024) :
    (iblk m c 0 t : Vec Ideal S16x1024 .f32) (ix2 b j) = ((m ((c : Thread nD τ).loc main_arg0)) : Vec Ideal S16x1024 .f32) (ix2 b j) := by
  blk_point [iblk, V, idx t]

set_option maxHeartbeats 1600000 in
/-- The weights of a tile of columns. -/
theorem weight (c : Dev nD) (t : Fin cfg0.N) (j e : Fin 1024) (q : Fin 6144) (hq : q.val = t.val * 1024 + e.val) :
    (iblk m c 1 t : Vec Ideal S1024x1024 .f32) (ix2 j e) = ((m ((c : Thread nD τ).loc main_arg1)) : Vec Ideal S1x1024x6144 .f32) (ix3 0 j q) := by
  have he : ((cfg0.win 1).blk t).view.emb (ix2 j e) = ix2 j q := by
    blk_ext [idx t, hq]
  show (V m c main_v0 : Vec Ideal S1024x6144 .f32) (((cfg0.win 1).blk t).view.emb (ix2 j e)) = _
  rw [he]
  entry_read
  pointwise

set_option maxHeartbeats 1600000 in
/-- The bias of a tile of columns. -/
theorem bias (c : Dev nD) (t : Fin cfg0.N) (e : Fin 1024) (q : Fin 6144) (hq : q.val = t.val * 1024 + e.val) :
    (iblk m c 2 t : Vec Ideal S1x1024 .f32) (ix2 0 e) = ((m ((c : Thread nD τ).loc main_arg2)) : Vec Ideal S1x6144 .f32) (ix2 0 q) := by
  have he : ((cfg0.win 2).blk t).view.emb (ix2 0 e) = ix2 0 q := by
    blk_ext [idx t, hq]
  show (V m c main_v2 : Vec Ideal S1x6144 .f32) (((cfg0.win 2).blk t).view.emb (ix2 0 e)) = _
  rw [he]
  entry_read
  pointwise

/-- The reference's result as a function of the kernel's arguments. -/
def REF (x0 : FVec Ideal S16x1024 .f32) (x1 : FVec Ideal S1x1024x6144 .f32) (x2 : FVec Ideal S1x6144 .f32) : FVec Ideal S16x6144 .f32 :=
  Cert.AdaRefIdeal.Read.val_main_v6 (F := Ideal) x0 x1 x2

set_option maxHeartbeats 1600000 in
/-- What a point stores is the reference's block. -/
theorem stored (c : Dev nD) (t : Fin cfg0.N) (b : Fin 16) (e : Fin 1024) (q : Fin 6144) (hq : q.val = t.val * 1024 + e.val) :
    k0_pay1 (iblk m c 0 t) (iblk m c 1 t) (iblk m c 2 t) (ix2 b e) = REF (m ((c : Thread nD τ).loc main_arg0)) (m ((c : Thread nD τ).loc main_arg1)) (m ((c : Thread nD τ).loc main_arg2)) (ix2 b q) := by
  refine (pay1_eq _ _ _ b e).trans (Eq.trans ?_ (ref_eq (m ((c : Thread nD τ).loc main_arg0)) (m ((c : Thread nD τ).loc main_arg1)) (m ((c : Thread nD τ).loc main_arg2)) b q).symm)
  rw [bias m c t e q hq]
  refine congrArg (fun z => z + _) (Finset.sum_congr rfl fun j _ => ?_)
  rw [here m c t b j, weight m c t j e q hq]

set_option maxHeartbeats 1600000 in
/-- The result array after the run is the reference's result. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  have ht : t.val < 6 := t.isLt
  have hy0 : (y 0).val < 16 := (y 0).isLt
  have hy1 : (y 1).val < 1024 := (y 1).isLt
  refine (congrArg (k0_pay1 (iblk m c 0 t) (iblk m c 1 t) (iblk m c 2 t)) (show (y : S16x1024.Idx) = ix2 (y 0) (y 1) from by funext a; fin_cases a <;> rfl)).trans ?_
  refine (stored m c t (y 0) (y 1) ⟨t.val * 1024 + (y 1).val, by omega⟩ rfl).trans (congrArg (REF _ _ _) ?_)
  blk_ext [idx t]

end Cert.AdaIdeal.Hand

end
-- ==== Proof.lean ====
/- The proof of the certificate's claim: for each program the frames are the generated ones, the idealized
   programs are the printed ones (no rewrite), and each value claim sets the kernel's run beside its
   reference's run. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.Gen.InSb.Frame
public import proofs.«01_k».proof.Proof.Gen.InSbIdeal.Frame
public import proofs.«01_k».proof.Proof.Gen.InSbRefIdeal.Run
public import proofs.«01_k».proof.Proof.Gen.InSbRefIdeal.Read
public import proofs.«01_k».proof.Proof.Gen.FfnIdeal.Value
public import proofs.«01_k».proof.Proof.Gen.InSbIdeal.Value
public import proofs.«01_k».proof.Proof.Gen.InBs.Frame
public import proofs.«01_k».proof.Proof.Gen.InBsIdeal.Frame
public import proofs.«01_k».proof.Proof.Gen.InBsRefIdeal.Run
public import proofs.«01_k».proof.Proof.Gen.InBsRefIdeal.Read
public import proofs.«01_k».proof.Proof.Gen.InBsIdeal.Value
public import proofs.«01_k».proof.Proof.Gen.Ada.Frame
public import proofs.«01_k».proof.Proof.Gen.AdaIdeal.Frame
public import proofs.«01_k».proof.Proof.Gen.AdaRefIdeal.Run
public import proofs.«01_k».proof.Proof.Gen.AdaRefIdeal.Read
public import proofs.«01_k».proof.Proof.Gen.AdaIdeal.Value
public import proofs.«01_k».proof.Proof.Gen.Pre_finite_inputs
public import proofs.«01_k».proof.Proof.Merge
public import proofs.«01_k».proof.Proof.Attn
public import proofs.«01_k».proof.Proof.Ffn
public import proofs.«01_k».proof.Proof.InSb
public import proofs.«01_k».proof.Proof.InBs
public import proofs.«01_k».proof.Proof.Ada
public import Idealize.ShloMosaic.Lib.Claim
public import Idealize.ShloMosaic.Adequacy
public import Idealize.ShloMosaic.Init

@[expose] public section

set_option maxRecDepth 16384
set_option maxHeartbeats 1600000

noncomputable section

namespace Cert.Proof

open Idealize.ShloMosaic Idealize.ShloMosaic.TcCoe Idealize.SL.Sem

/-- The reference `AttnRefIdeal` runs and leaves its arguments as they were. -/
theorem quiescent_AttnRefIdeal : Cert.quiescent_AttnRefIdeal := by
  intro m g _
  exact (θ_run Cert.AttnRefIdeal.defs _ _).mono
    (fun r h => ⟨fun c => (h c).2, Idealize.ShloMosaic.sem_eq_zero_of_no_sems (by decide) r.2⟩)
    (Cert.AttnRefIdeal.Value.run (F := Ideal) m g)

/-- The reference `FfnRefIdeal` runs and leaves its arguments as they were. -/
theorem quiescent_FfnRefIdeal : Cert.quiescent_FfnRefIdeal := by
  intro m g _
  exact (θ_run Cert.FfnRefIdeal.defs _ _).mono
    (fun r h => ⟨fun c => (h c).2, Idealize.ShloMosaic.sem_eq_zero_of_no_sems (by decide) r.2⟩)
    (Cert.FfnRefIdeal.Value.run (F := Ideal) m g)

/-- The reference `MergeRefIdeal` runs and leaves its arguments as they were. -/
theorem quiescent_MergeRefIdeal : Cert.quiescent_MergeRefIdeal := by
  intro m g _
  exact (θ_run Cert.MergeRefIdeal.defs _ _).mono
    (fun r h => ⟨fun c => (h c).2, Idealize.ShloMosaic.sem_eq_zero_of_no_sems (by decide) r.2⟩)
    (Cert.MergeRefIdeal.Value.run (F := Ideal) m g)

/-- The reference `InSbRefIdeal` runs and leaves its arguments as they were. -/
theorem quiescent_InSbRefIdeal : Cert.quiescent_InSbRefIdeal := by
  intro m g _
  exact (θ_run Cert.InSbRefIdeal.defs _ _).mono
    (fun r h => ⟨fun c => (h c).2, Idealize.ShloMosaic.sem_eq_zero_of_no_sems (by decide) r.2⟩)
    (Cert.InSbRefIdeal.Value.run (F := Ideal) m g)

/-- The reference `InBsRefIdeal` runs and leaves its arguments as they were. -/
theorem quiescent_InBsRefIdeal : Cert.quiescent_InBsRefIdeal := by
  intro m g _
  exact (θ_run Cert.InBsRefIdeal.defs _ _).mono
    (fun r h => ⟨fun c => (h c).2, Idealize.ShloMosaic.sem_eq_zero_of_no_sems (by decide) r.2⟩)
    (Cert.InBsRefIdeal.Value.run (F := Ideal) m g)

/-- The reference `AdaRefIdeal` runs and leaves its arguments as they were. -/
theorem quiescent_AdaRefIdeal : Cert.quiescent_AdaRefIdeal := by
  intro m g _
  exact (θ_run Cert.AdaRefIdeal.defs _ _).mono
    (fun r h => ⟨fun c => (h c).2, Idealize.ShloMosaic.sem_eq_zero_of_no_sems (by decide) r.2⟩)
    (Cert.AdaRefIdeal.Value.run (F := Ideal) m g)

/-- The kernel `AttnIdeal` ends with the same result as its reference. -/
theorem Attn_value : Cert.algebraic_AttnIdeal_AttnRefIdeal_pre_finite_inputs := by
  pair_intro
  · run_from Cert.AttnIdeal.Gen.run_main m g
  · run_from Cert.AttnRefIdeal.Value.run m' g'
    obtain ⟨h0, h1, h2, h3, h4, h5⟩ := hagree c
    rw [Cert.AttnRefIdeal.Read.val_main_v57_eq m' c, h0, h1, h2, h3, h4, h5]
    exact (Cert.AttnIdeal.Hand.final m c (hpre c)).symm

/-- The kernel `FfnIdeal` ends with the same result as its reference. -/
theorem Ffn_value : Cert.algebraic_FfnIdeal_FfnRefIdeal := by
  pair_intro
  · run_from Cert.FfnIdeal.Gen.run_main m g
  · run_from Cert.FfnRefIdeal.Value.run m' g'
    obtain ⟨h0, h1, h2, h3, h4, h5, h6, h7, h8, h9⟩ := hagree c
    rw [Cert.FfnRefIdeal.Read.val_main_v74_eq m' c, h0, h1, h2, h3, h4, h5, h6, h7, h8, h9]
    exact (Cert.FfnIdeal.Hand.final m c).symm

/-- The kernel `MergeIdeal` ends with the same result as its reference. -/
theorem Merge_value : Cert.algebraic_MergeIdeal_MergeRefIdeal := by
  pair_intro
  · run_from Cert.MergeIdeal.Gen.run_main m g
  · run_from Cert.MergeRefIdeal.Value.run m' g'
    exact (Cert.MergeIdeal.Hand.final m c).symm

/-- The kernel `InSbIdeal` ends with the same result as its reference. -/
theorem InSb_value : Cert.algebraic_InSbIdeal_InSbRefIdeal := by
  pair_intro
  · run_from Cert.InSbIdeal.Gen.run_main m g
  · run_from Cert.InSbRefIdeal.Value.run m' g'
    refine (Cert.InSbRefIdeal.Read.val_main_v35_eq _ _ _ _ _).trans ?_
    rw [(hagree c).2.2.2.2]
    exact (Cert.InSbIdeal.Hand.final m c).symm

/-- The kernel `InBsIdeal` ends with the same result as its reference. -/
theorem InBs_value : Cert.algebraic_InBsIdeal_InBsRefIdeal := by
  pair_intro
  · run_from Cert.InBsIdeal.Gen.run_main m g
  · run_from Cert.InBsRefIdeal.Value.run m' g'
    obtain ⟨h0, h1, h2, h3, h4, h5⟩ := hagree c
    rw [Cert.InBsRefIdeal.Read.val_main_v84_eq m' c, h0, h1, h2, h3, h4, h5]
    exact (Cert.InBsIdeal.Hand.final m c).symm

/-- The kernel `AdaIdeal` ends with the same result as its reference. -/
theorem Ada_value : Cert.algebraic_AdaIdeal_AdaRefIdeal := by
  pair_intro
  · run_from Cert.AdaIdeal.Gen.run_main m g
  · run_from Cert.AdaRefIdeal.Value.run m' g'
    exact (Cert.AdaIdeal.Hand.final m c).symm

theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.InSb.Gen.facts, Cert.InSbIdeal.Gen.facts, Cert.InSbRefIdeal.Gen.facts, Cert.InBs.Gen.facts, Cert.InBsIdeal.Gen.facts, Cert.InBsRefIdeal.Gen.facts, Cert.Ada.Gen.facts, Cert.AdaIdeal.Gen.facts, Cert.AdaRefIdeal.Gen.facts, Cert.Pre_finite_inputs.Gen.facts,
    (fun m ρ _ => Cert.Attn.Gen.frame m ρ),
    (fun m ρ _ => Cert.AttnIdeal.Gen.frame m ρ),
    (fun m ρ _ => Cert.AttnIdeal.Gen.frame m ρ),
    quiescent_AttnRefIdeal,
    (fun m ρ _ => quiescent_AttnRefIdeal m ρ trivial),
    (fun m ρ _ => Cert.Ffn.Gen.frame m ρ),
    (fun m ρ _ => Cert.FfnIdeal.Gen.frame m ρ),
    quiescent_FfnRefIdeal,
    (fun m ρ _ => Cert.Merge.Gen.frame m ρ),
    (fun m ρ _ => Cert.MergeIdeal.Gen.frame m ρ),
    quiescent_MergeRefIdeal,
    (fun m ρ _ => Cert.InSb.Gen.frame m ρ),
    (fun m ρ _ => Cert.InSbIdeal.Gen.frame m ρ),
    quiescent_InSbRefIdeal,
    (fun m ρ _ => Cert.InBs.Gen.frame m ρ),
    (fun m ρ _ => Cert.InBsIdeal.Gen.frame m ρ),
    quiescent_InBsRefIdeal,
    (fun m ρ _ => Cert.Ada.Gen.frame m ρ),
    (fun m ρ _ => Cert.AdaIdeal.Gen.frame m ρ),
    quiescent_AdaRefIdeal,
    trivial,
    Attn_value,
    trivial,
    Ffn_value,
    trivial,
    Merge_value,
    trivial,
    InSb_value,
    trivial,
    InBs_value,
    trivial,
    Ada_value⟩

end Cert.Proof

end
